-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_clear_of_gaps [hPre_rows_clear_of_gaps : Cert.Pre_rows_clear_of_gaps.Facts] (m : (ℓ : Loc Cert.KernelIdeal.nD Cert.KernelIdeal.τ Cert.KernelIdeal.sig) → Buf (Elt Ideal) ℓ) : Prop :=
  ∀ c : Dev Cert.KernelIdeal.nD,
    (Cert.Pre_rows_clear_of_gaps.fn (F := Ideal) (m ((c.tc : Thread Cert.KernelIdeal.nD Cert.KernelIdeal.τ).loc Cert.KernelIdeal.main_arg0))).1 = (fun _ => 1#1)
    ∧ (Cert.Pre_rows_clear_of_gaps.fn (F := Ideal) (m ((c.tc : Thread Cert.KernelIdeal.nD Cert.KernelIdeal.τ).loc Cert.KernelIdeal.main_arg0))).2.1 = (fun _ => 1#1)
    ∧ (Cert.Pre_rows_clear_of_gaps.fn (F := Ideal) (m ((c.tc : Thread Cert.KernelIdeal.nD Cert.KernelIdeal.τ).loc Cert.KernelIdeal.main_arg0))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_clear_of_gaps [hPre_rows_clear_of_gaps : Cert.Pre_rows_clear_of_gaps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_clear_of_gaps.fn (F := Ideal) (m ((c.tc : Thread Cert.ReferenceIdeal.nD Cert.ReferenceIdeal.τ).loc Cert.ReferenceIdeal.main_arg0))).1 = (fun _ => 1#1)
    ∧ (Cert.Pre_rows_clear_of_gaps.fn (F := Ideal) (m ((c.tc : Thread Cert.ReferenceIdeal.nD Cert.ReferenceIdeal.τ).loc Cert.ReferenceIdeal.main_arg0))).2.1 = (fun _ => 1#1)
    ∧ (Cert.Pre_rows_clear_of_gaps.fn (F := Ideal) (m ((c.tc : Thread Cert.ReferenceIdeal.nD Cert.ReferenceIdeal.τ).loc Cert.ReferenceIdeal.main_arg0))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_rows_clear_of_gaps [hKernelIdeal : Cert.KernelIdeal.Facts] [hPre_rows_clear_of_gaps : Cert.Pre_rows_clear_of_gaps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_clear_of_gaps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_rows_clear_of_gaps [hReferenceIdeal : Cert.ReferenceIdeal.Facts] [hPre_rows_clear_of_gaps : Cert.Pre_rows_clear_of_gaps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_clear_of_gaps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_rows_clear_of_gaps [hKernelIdeal : Cert.KernelIdeal.Facts] [hReferenceIdeal : Cert.ReferenceIdeal.Facts] [hPre_rows_clear_of_gaps : Cert.Pre_rows_clear_of_gaps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_clear_of_gaps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_rows_clear_of_gaps : Cert.Pre_rows_clear_of_gaps.Facts),
    quiescent_Kernel (hKernel := hKernel)
    ∧ quiescent_KernelIdeal (hKernelIdeal := hKernelIdeal)
    ∧ quiescent_KernelIdeal_pre_rows_clear_of_gaps (hKernelIdeal := hKernelIdeal) (hPre_rows_clear_of_gaps := hPre_rows_clear_of_gaps)
    ∧ quiescent_ReferenceIdeal (hReferenceIdeal := hReferenceIdeal)
    ∧ quiescent_ReferenceIdeal_pre_rows_clear_of_gaps (hReferenceIdeal := hReferenceIdeal) (hPre_rows_clear_of_gaps := hPre_rows_clear_of_gaps)
    ∧ preserves_Kernel_KernelIdeal
    ∧ algebraic_KernelIdeal_ReferenceIdeal_pre_rows_clear_of_gaps (hKernelIdeal := hKernelIdeal) (hReferenceIdeal := hReferenceIdeal) (hPre_rows_clear_of_gaps := hPre_rows_clear_of_gaps)
-- ==== Pre_rows_clear_of_gaps.lean ====
abbrev S4194304x16 : Shape := ⟨2, ![4194304, 16]⟩
abbrev S4 : Shape := ⟨1, ![4]⟩
abbrev S4194304x1 : Shape := ⟨2, ![4194304, 1]⟩
abbrev S4194304 : Shape := ⟨1, ![4194304]⟩
abbrev S_ : Shape := ⟨0, ![]⟩
abbrev S10 : Shape := ⟨1, ![10]⟩
abbrev S1 : Shape := ⟨1, ![1]⟩
abbrev S11 : Shape := ⟨1, ![11]⟩
abbrev S9 : Shape := ⟨1, ![9]⟩
abbrev S1x9 : Shape := ⟨2, ![1, 9]⟩
abbrev S4194304x9 : Shape := ⟨2, ![4194304, 9]⟩
abbrev S1x4 : Shape := ⟨2, ![1, 4]⟩
abbrev S4194304x4 : Shape := ⟨2, ![4194304, 4]⟩

class Facts : Prop where
  slices_S4194304x16_S4194304x1_0_1 : S4194304x16.Slices ![0, 1] S4194304x1
  shapeCasts_S4194304x1_S4194304 : S4194304x1.ShapeCasts S4194304
  slices_S4194304x16_S4194304x1_0_0 : S4194304x16.Slices ![0, 0] S4194304x1
  bcast_S_S4194304 : S_.BroadcastsInDim S4194304 (![] : Fin 0 → Fin S4194304.rank)
  bcast_S_S10 : S_.BroadcastsInDim S10 (![] : Fin 0 → Fin S10.rank)
  shapeCasts_S_S1 : S_.ShapeCasts S1
  bcast_S1_S10_0 : S1.BroadcastsInDim S10 (![0] : Fin 1 → Fin S10.rank)
  bcast_S_S1 : S_.BroadcastsInDim S1 (![] : Fin 0 → Fin S1.rank)
  concatenates_S10_S1_S11_d0 : Shape.Concatenates [S10, S1] S11 0
  slices_S11_S9_1 : S11.Slices ![1] S9
  bcast_S9_S1x9_1 : S9.BroadcastsInDim S1x9 (![1] : Fin 1 → Fin S1x9.rank)
  bcast_S4194304_S4194304x1_0 : S4194304.BroadcastsInDim S4194304x1 (![0] : Fin 1 → Fin S4194304x1.rank)
  bcast_S1x9_S4194304x9_0_1 : S1x9.BroadcastsInDim S4194304x9 (![0, 1] : Fin 2 → Fin S4194304x9.rank)
  bcast_S4194304x1_S4194304x9_0_1 : S4194304x1.BroadcastsInDim S4194304x9 (![0, 1] : Fin 2 → Fin S4194304x9.rank)
  bcast_S4_S1x4_1 : S4.BroadcastsInDim S1x4 (![1] : Fin 1 → Fin S1x4.rank)
  bcast_S1x4_S4194304x4_0_1 : S1x4.BroadcastsInDim S4194304x4 (![0, 1] : Fin 2 → Fin S4194304x4.rank)
  bcast_S4194304x1_S4194304x4_0_1 : S4194304x1.BroadcastsInDim S4194304x4 (![0, 1] : Fin 2 → Fin S4194304x4.rank)
  bcast_S_S4 : S_.BroadcastsInDim S4 (![] : Fin 0 → Fin S4.rank)
  bcast_S_S4194304x16 : S_.BroadcastsInDim S4194304x16 (![] : Fin 0 → Fin S4194304x16.rank)
  slices_S4194304x9_S4194304x4_0_0 : S4194304x9.Slices ![0, 0] S4194304x4
  slices_S4194304x9_S4194304x4_0_5 : S4194304x9.Slices ![0, 5] S4194304x4

variable [Facts]

noncomputable abbrev lit0 : Fin 4 → BitVec 32 := fun
  | 0 => 0x3F167918#32 | 1 => 0x3F737871#32 | 2 => 0x3F737870#32 | 3 => 0x3F167917#32
  | _ => 0#32

noncomputable abbrev lit1 : Fin 4 → BitVec 32 := fun
  | 0 => 0x3F4F1BBD#32 | 1 => 0x3E9E3779#32 | 2 => 0xBE9E377B#32 | 3 => 0xBF4F1BBE#32
  | _ => 0#32

noncomputable abbrev lit2 : Fin 4 → BitVec 32 := fun
  | 0 => 0xBF167918#32 | 1 => 0xBF737871#32 | 2 => 0xBF737870#32 | 3 => 0xBF167917#32
  | _ => 0#32

noncomputable abbrev lit3 : Fin 4 → BitVec 32 := fun
  | 0 => 0xBF4F1BBD#32 | 1 => 0xBE9E3779#32 | 2 => 0x3E9E377B#32 | 3 => 0x3F4F1BBE#32
  | _ => 0#32

def fn_remainder {F : FTy → Type} [FloatOps F] (arg0 : FVec F S4194304 .f32) (arg1 : FVec F S_ .f32) : FVec F S4194304 .f32 :=
  let v0 : FVec F S_ .f32 := id arg1
  let v1 : FVec F S4194304 .f32 := broadcastInDim S4194304 ![] bcast_S_S4194304 v0
  let v2 : FVec F S4194304 .f32 := Host.remf arg0 v1
  let cst : FVec F S_ .f32 := constant S_ .f32 0x00000000#32
  let v3 : FVec F S4194304 .f32 := broadcastInDim S4194304 ![] bcast_S_S4194304 cst
  let v4 : IVec S4194304 1 := cmpf .une v2 v3
  let cst_0 : FVec F S_ .f32 := constant S_ .f32 0x00000000#32
  let v5 : FVec F S4194304 .f32 := broadcastInDim S4194304 ![] bcast_S_S4194304 cst_0
  let v6 : IVec S4194304 1 := cmpf .olt v2 v5
  let cst_1 : FVec F S_ .f32 := constant S_ .f32 0x00000000#32
  let v7 : IVec S_ 1 := cmpf .olt v0 cst_1
  let v8 : IVec S4194304 1 := broadcastInDim S4194304 ![] bcast_S_S4194304 v7
  let v9 : IVec S4194304 1 := cmpi .ne v6 v8
  let v10 : IVec S4194304 1 := andi v9 v4
  let v11 : FVec F S4194304 .f32 := broadcastInDim S4194304 ![] bcast_S_S4194304 v0
  let v12 : FVec F S4194304 .f32 := addf v2 v11
  let v13 : FVec F S4194304 .f32 := select v10 v12 v2
  v13

def fn_linspace {F : FTy → Type} [FloatOps F] (arg0 : FVec F S_ .f32) (arg1 : FVec F S_ .f32) : FVec F S11 .f32 :=
  let v0 : FVec F S_ .f32 := id arg0
  let v1 : FVec F S_ .f32 := id arg1
  let v2 : FVec F S_ .f32 := subf v1 v0
  let cst : FVec F S_ .f32 := constant S_ .f32 0x41200000#32
  let v3 : FVec F S_ .f32 := Host.divf v2 cst
  let v4 : FVec F S10 .f32 := sitofp .f32 (iotaInDim S10 32 0)
  let cst_0 : FVec F S_ .f32 := constant S_ .f32 0x41200000#32
  let v5 : FVec F S10 .f32 := broadcastInDim S10 ![] bcast_S_S10 cst_0
  let v6 : FVec F S10 .f32 := Host.divf v4 v5
  let v7 : FVec F S1 .f32 := shapeCast S1 v0 shapeCasts_S_S1
  let cst_1 : FVec F S_ .f32 := constant S_ .f32 0x3F800000#32
  let v8 : FVec F S10 .f32 := broadcastInDim S10 ![] bcast_S_S10 cst_1
  let v9 : FVec F S10 .f32 := subf v8 v6
  let v10 : FVec F S10 .f32 := broadcastInDim S10 ![0] bcast_S1_S10_0 v7
  let v11 : FVec F S10 .f32 := mulf v10 v9
  let v12 : FVec F S1 .f32 := shapeCast S1 v1 shapeCasts_S_S1
  let v13 : FVec F S10 .f32 := broadcastInDim S10 ![0] bcast_S1_S10_0 v12
  let v14 : FVec F S10 .f32 := mulf v13 v6
  let v15 : FVec F S10 .f32 := addf v11 v14
  let v16 : FVec F S1 .f32 := broadcastInDim S1 ![] bcast_S_S1 v1
  let v17 : FVec F S11 .f32 := (fun a b => concatenate S11 0 [⟨S10, a⟩, ⟨S1, b⟩] concatenates_S10_S1_S11_d0) v15 v16
  v17

def fn_part1 {F : FTy → Type} [FloatOps F] (main_arg0 : FVec F S4194304x16 .f32) (main_cst_1 : FVec F S4 .f32) (main_cst_2 : FVec F S4 .f32) (main_v5 : FVec F S4194304 .f32) (main_v12 : IVec S4194304x9 1) (main_v15 : FVec F S4194304x1 .f32) (main_v16 : FVec F S4194304x4 .f32) : IVec S4194304x16 1 × IVec S4194304x4 1 × IVec S4194304x4 1 :=
  let main_v17 : FVec F S4194304x4 .f32 := broadcastInDim S4194304x4 ![0, 1] bcast_S4194304x1_S4194304x4_0_1 main_v15
  let main_v18 : IVec S4194304x4 1 := cmpf .olt main_v16 main_v17
  let main_v19 : FVec F S4 .f32 := Host.atan2 main_cst_1 main_cst_2
  let main_cst_6 : FVec F S_ .f32 := constant S_ .f32 0x40C90FDB#32
  let main_v20 : FVec F S4 .f32 := broadcastInDim S4 ![] bcast_S_S4 main_cst_6
  let main_v21 : FVec F S4 .f32 := addf main_v19 main_v20
  let main_v22 : FVec F S1x4 .f32 := broadcastInDim S1x4 ![1] bcast_S4_S1x4_1 main_v21
  let main_v23 : FVec F S4194304x1 .f32 := broadcastInDim S4194304x1 ![0] bcast_S4194304_S4194304x1_0 main_v5
  let main_v24 : FVec F S4194304x4 .f32 := broadcastInDim S4194304x4 ![0, 1] bcast_S1x4_S4194304x4_0_1 main_v22
  let main_v25 : FVec F S4194304x4 .f32 := broadcastInDim S4194304x4 ![0, 1] bcast_S4194304x1_S4194304x4_0_1 main_v23
  let main_v26 : IVec S4194304x4 1 := cmpf .olt main_v24 main_v25
  let main_v27 : FVec F S4194304x16 .f32 := Host.absf main_arg0
  let main_cst_7 : FVec F S_ .f32 := constant S_ .f32 0x7F800000#32
  let main_v28 : FVec F S4194304x16 .f32 := broadcastInDim S4194304x16 ![] bcast_S_S4194304x16 main_cst_7
  let main_v29 : IVec S4194304x16 1 := cmpf .olt main_v27 main_v28
  let main_v30 : IVec S4194304x4 1 := (extractStridedSlice S4194304x4 ![0, 0] · slices_S4194304x9_S4194304x4_0_0) main_v12
  let main_v31 : IVec S4194304x4 1 := cmpi .eq main_v18 main_v30
  let main_v32 : IVec S4194304x4 1 := (extractStridedSlice S4194304x4 ![0, 5] · slices_S4194304x9_S4194304x4_0_5) main_v12
  let main_v33 : IVec S4194304x4 1 := cmpi .eq main_v26 main_v32
  (main_v29, main_v31, main_v33)

def fn {F : FTy → Type} [FloatOps F] (main_arg0 : FVec F S4194304x16 .f32) : IVec S4194304x16 1 × IVec S4194304x4 1 × IVec S4194304x4 1 :=
  let main_cst : FVec F S4 .f32 := fun i => FloatOps.ofBits .f32 (lit0 (S4.rowMajor i))
  let main_cst_0 : FVec F S4 .f32 := fun i => FloatOps.ofBits .f32 (lit1 (S4.rowMajor i))
  let main_cst_1 : FVec F S4 .f32 := fun i => FloatOps.ofBits .f32 (lit2 (S4.rowMajor i))
  let main_cst_2 : FVec F S4 .f32 := fun i => FloatOps.ofBits .f32 (lit3 (S4.rowMajor i))
  let main_v0 : FVec F S4194304x1 .f32 := (extractStridedSlice S4194304x1 ![0, 1] · slices_S4194304x16_S4194304x1_0_1) main_arg0
  let main_v1 : FVec F S4194304 .f32 := shapeCast S4194304 main_v0 shapeCasts_S4194304x1_S4194304
  let main_v2 : FVec F S4194304x1 .f32 := (extractStridedSlice S4194304x1 ![0, 0] · slices_S4194304x16_S4194304x1_0_0) main_arg0
  let main_v3 : FVec F S4194304 .f32 := shapeCast S4194304 main_v2 shapeCasts_S4194304x1_S4194304
  let main_v4 : FVec F S4194304 .f32 := Host.atan2 main_v1 main_v3
  let main_cst_3 : FVec F S_ .f32 := constant S_ .f32 0x40C90FDB#32
  let main_v5 : FVec F S4194304 .f32 := fn_remainder (F := F) main_v4 main_cst_3
  let main_cst_4 : FVec F S_ .f32 := constant S_ .f32 0x00000000#32
  let main_cst_5 : FVec F S_ .f32 := constant S_ .f32 0x40C90FDB#32
  let main_v6 : FVec F S11 .f32 := fn_linspace (F := F) main_cst_4 main_cst_5
  let main_v7 : FVec F S9 .f32 := (extractStridedSlice S9 ![1] · slices_S11_S9_1) main_v6
  let main_v8 : FVec F S1x9 .f32 := broadcastInDim S1x9 ![1] bcast_S9_S1x9_1 main_v7
  let main_v9 : FVec F S4194304x1 .f32 := broadcastInDim S4194304x1 ![0] bcast_S4194304_S4194304x1_0 main_v5
  let main_v10 : FVec F S4194304x9 .f32 := broadcastInDim S4194304x9 ![0, 1] bcast_S1x9_S4194304x9_0_1 main_v8
  let main_v11 : FVec F S4194304x9 .f32 := broadcastInDim S4194304x9 ![0, 1] bcast_S4194304x1_S4194304x9_0_1 main_v9
  let main_v12 : IVec S4194304x9 1 := cmpf .olt main_v10 main_v11
  let main_v13 : FVec F S4 .f32 := Host.atan2 main_cst main_cst_0
  let main_v14 : FVec F S1x4 .f32 := broadcastInDim S1x4 ![1] bcast_S4_S1x4_1 main_v13
  let main_v15 : FVec F S4194304x1 .f32 := broadcastInDim S4194304x1 ![0] bcast_S4194304_S4194304x1_0 main_v5
  let main_v16 : FVec F S4194304x4 .f32 := broadcastInDim S4194304x4 ![0, 1] bcast_S1x4_S4194304x4_0_1 main_v14
  fn_part1 (F := F) main_arg0 main_cst_1 main_cst_2 main_v5 main_v12 main_v15 main_v16
-- ==== Kernel.lean ====
abbrev S4194304x16 : Shape := ⟨2, ![4194304, 16]⟩
abbrev S4194304x1 : Shape := ⟨2, ![4194304, 1]⟩
abbrev S4194304 : Shape := ⟨1, ![4194304]⟩
abbrev S32768x128 : Shape := ⟨2, ![32768, 128]⟩
abbrev S1 : Shape := ⟨1, ![1]⟩
abbrev S8192x128 : Shape := ⟨2, ![8192, 128]⟩
abbrev S16 : Shape := ⟨1, ![16]⟩
abbrev S1x8192x128 : Shape := ⟨3, ![1, 8192, 128]⟩
abbrev S1x1x1 : Shape := ⟨3, ![1, 1, 1]⟩
abbrev S_ : Shape := ⟨0, ![]⟩

abbrev nBuf : Space → Nat
  | .hbm => 9
  | .vmem => 4
  | .smem => 2
  | _ => 0

abbrev bufTy : (tb : Table) → Fin (tcTables nBuf tb) → BufTy
  | .hbm, ⟨0, _⟩ => ⟨S4194304x16, .f32⟩
  | .hbm, ⟨1, _⟩ => ⟨S4194304x1, .f32⟩
  | .hbm, ⟨2, _⟩ => ⟨S4194304, .f32⟩
  | .hbm, ⟨3, _⟩ => ⟨S32768x128, .f32⟩
  | .hbm, ⟨4, _⟩ => ⟨S4194304x1, .f32⟩
  | .hbm, ⟨5, _⟩ => ⟨S4194304, .f32⟩
  | .hbm, ⟨6, _⟩ => ⟨S32768x128, .f32⟩
  | .hbm, ⟨7, _⟩ => ⟨S1, .f32⟩
  | .hbm, ⟨8, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .smem, ⟨0, _⟩ => ⟨S1, .f32⟩
  | .local _ .smem, ⟨1, _⟩ => ⟨S16, .f32⟩
  | _, _ => ⟨S4194304x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v143 : BitVec 1 := Scalar.cmpi .eq arg0 c3_i32
  let v144 : BitVec 32 := Scalar.extui v143
  let c0_i32_57 : BitVec 32 := 0#32
  let v145 : BitVec 1 := Scalar.cmpi .ne v144 c0_i32_57
  v145

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4194304x16 : Shape := ⟨2, ![4194304, 16]⟩
abbrev S_ : Shape := ⟨0, ![]⟩
abbrev S4194304 : Shape := ⟨1, ![4194304]⟩
abbrev S4194304x1 : Shape := ⟨2, ![4194304, 1]⟩
abbrev S4194304x2 : Shape := ⟨2, ![4194304, 2]⟩
abbrev S10 : Shape := ⟨1, ![10]⟩
abbrev S1 : Shape := ⟨1, ![1]⟩
abbrev S11 : Shape := ⟨1, ![11]⟩
abbrev S9 : Shape := ⟨1, ![9]⟩
abbrev S1x9 : Shape := ⟨2, ![1, 9]⟩
abbrev S4194304x9 : Shape := ⟨2, ![4194304, 9]⟩

abbrev nBuf : Space → Nat
  | .hbm => 104
  | .vmem => 0
  | .smem => 0
  | _ => 0

abbrev bufTy : (tb : Table) → Fin (tcTables nBuf tb) → BufTy
  | .hbm, ⟨0, _⟩ => ⟨S4194304x16, .f32⟩
  | .hbm, ⟨1, _⟩ => ⟨S4194304x16, .f32⟩
  | .hbm, ⟨2, _⟩ => ⟨S_, .f32⟩
  | .hbm, ⟨3, _⟩ => ⟨S4194304, .f32⟩
  | .hbm, ⟨4, _⟩ => ⟨S4194304x1, .f32⟩
  | .hbm, ⟨5, _⟩ => ⟨S4194304x1, .f32⟩
  | .hbm, ⟨6, _⟩ => ⟨S4194304x16, .f32⟩
  | .hbm, ⟨7, _⟩ => ⟨S4194304x16, .f32⟩
  | .hbm, ⟨8, _⟩ => ⟨S4194304x16, .f32⟩
  | .hbm, ⟨9, _⟩ => ⟨S_, .f32⟩
  | .hbm, ⟨10, _⟩ => ⟨S4194304, .f32⟩
  | .hbm, ⟨11, _⟩ => ⟨S4194304x1, .f32⟩
  | .hbm, ⟨12, _⟩ => ⟨S4194304x1, .f32⟩
  | .hbm, ⟨13, _⟩ => ⟨S_, .f32⟩
  | .hbm, ⟨14, _⟩ => ⟨S4194304x1, .f32⟩
  | .hbm, ⟨15, _⟩ => ⟨S4194304x1, .f32⟩
  | .hbm, ⟨16, _⟩ => ⟨S_, .f32⟩
  | .hbm, ⟨17, _⟩ => ⟨S4194304x1, .f32⟩
  | .hbm, ⟨18, _⟩ => ⟨S4194304x1, .f32⟩
  | .hbm, ⟨19, _⟩ => ⟨S4194304x16, .f32⟩
  | .hbm, ⟨20, _⟩ => ⟨S4194304x16, .f32⟩
  | .hbm, ⟨21, _⟩ => ⟨S4194304x2, .f32⟩
  | .hbm, ⟨22, _⟩ => ⟨S4194304x1, .f32⟩
  | .hbm, ⟨23, _⟩ => ⟨S4194304, .f32⟩
  | .hbm, ⟨24, _⟩ => ⟨S4194304x1, .f32⟩
  | .hbm, ⟨25, _⟩ => ⟨S4194304, .f32⟩
  | .hbm, ⟨26, _⟩ => ⟨S4194304, .f32⟩
  | .hbm, ⟨27, _⟩ => ⟨S_, .f32⟩
  | .hbm, ⟨28, _⟩ => ⟨S_, .f32⟩
  | .hbm, ⟨29, _⟩ => ⟨S4194304, .f32⟩
  | .hbm, ⟨30, _⟩ => ⟨S4194304, .f32⟩
  | .hbm, ⟨31, _⟩ => ⟨S_, .f32⟩
  | .hbm, ⟨32, _⟩ => ⟨S4194304, .f32⟩
  | .hbm, ⟨33, _⟩ => ⟨S4194304, .i1⟩
  | .hbm, ⟨34, _⟩ => ⟨S_, .f32⟩
  | .hbm, ⟨35, _⟩ => ⟨S4194304, .f32⟩
  | .hbm, ⟨36, _⟩ => ⟨S4194304, .i1⟩
  | .hbm, ⟨37, _⟩ => ⟨S_, .f32⟩
  | .hbm, ⟨38, _⟩ => ⟨S_, .i1⟩
  | .hbm, ⟨39, _⟩ => ⟨S4194304, .i1⟩
  | .hbm, ⟨40, _⟩ => ⟨S4194304, .i1⟩
  | .hbm, ⟨41, _⟩ => ⟨S4194304, .i1⟩
  | .hbm, ⟨42, _⟩ => ⟨S4194304, .f32⟩
  | .hbm, ⟨43, _⟩ => ⟨S4194304, .f32⟩
  | .hbm, ⟨44, _⟩ => ⟨S4194304, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S10, .f32⟩
  | .hbm, ⟨53, _⟩ => ⟨S_, .f32⟩
  | .hbm, ⟨54, _⟩ => ⟨S10, .f32⟩
  | .hbm, ⟨55, _⟩ => ⟨S10, .f32⟩
  | .hbm, ⟨56, _⟩ => ⟨S1, .f32⟩
  | .hbm, ⟨57, _⟩ => ⟨S_, .f32⟩
  | .hbm, ⟨58, _⟩ => ⟨S10, .f32⟩
  | .hbm, ⟨59, _⟩ => ⟨S10, .f32⟩
  | .hbm, ⟨60, _⟩ => ⟨S10, .f32⟩
  | .hbm, ⟨61, _⟩ => ⟨S10, .f32⟩
  | .hbm, ⟨62, _⟩ => ⟨S1, .f32⟩
  | .hbm, ⟨63, _⟩ => ⟨S10, .f32⟩
  | .hbm, ⟨64, _⟩ => ⟨S10, .f32⟩
  | .hbm, ⟨65, _⟩ => ⟨S10, .f32⟩
  | .hbm, ⟨66, _⟩ => ⟨S1, .f32⟩
  | .hbm, ⟨67, _⟩ => ⟨S11, .f32⟩
  | .hbm, ⟨68, _⟩ => ⟨S9, .f32⟩
  | .hbm, ⟨69, _⟩ => ⟨S1x9, .f32⟩
  | .hbm, ⟨70, _⟩ => ⟨S4194304x1, .f32⟩
  | .hbm, ⟨71, _⟩ => ⟨S4194304x9, .f32⟩
  | .hbm, ⟨72, _⟩ => ⟨S4194304x9, .f32⟩
  | .hbm, ⟨73, _⟩ => ⟨S4194304x9, .i1⟩
  | .hbm, ⟨74, _⟩ => ⟨S4194304x9, .i32⟩
  | .hbm, ⟨75, _⟩ => ⟨S_, .i32⟩
  | .hbm, ⟨76, _⟩ => ⟨S4194304, .i32⟩
  | .hbm, ⟨77, _⟩ => ⟨S_, .i32⟩
  | .hbm, ⟨78, _⟩ => ⟨S10, .i32⟩
  | .hbm, ⟨79, _⟩ => ⟨S_, .i32⟩
  | .hbm, ⟨80, _⟩ => ⟨S_, .i32⟩
  | .hbm, ⟨81, _⟩ => ⟨S4194304, .i32⟩
  | .hbm, ⟨82, _⟩ => ⟨S4194304, .i32⟩
  | .hbm, ⟨83, _⟩ => ⟨S_, .i32⟩
  | .hbm, ⟨84, _⟩ => ⟨S4194304, .i32⟩
  | .hbm, ⟨85, _⟩ => ⟨S4194304, .i1⟩
  | .hbm, ⟨86, _⟩ => ⟨S_, .i32⟩
  | .hbm, ⟨87, _⟩ => ⟨S4194304, .i32⟩
  | .hbm, ⟨88, _⟩ => ⟨S4194304, .i32⟩
  | .hbm, ⟨89, _⟩ => ⟨S4194304, .i32⟩
  | .hbm, ⟨90, _⟩ => ⟨S4194304x1, .i32⟩
  | .hbm, ⟨91, _⟩ => ⟨S_, .i32⟩
  | .hbm, ⟨92, _⟩ => ⟨S4194304, .i32⟩
  | .hbm, ⟨93, _⟩ => ⟨S10, .i32⟩
  | .hbm, ⟨94, _⟩ => ⟨S10, .f32⟩
  | .hbm, ⟨95, _⟩ => ⟨S_, .f32⟩
  | .hbm, ⟨96, _⟩ => ⟨S10, .f32⟩
  | .hbm, ⟨97, _⟩ => ⟨S10, .f32⟩
  | .hbm, ⟨98, _⟩ => ⟨S10, .f32⟩
  | .hbm, ⟨99, _⟩ => ⟨S_, .f32⟩
  | .hbm, ⟨100, _⟩ => ⟨S10, .f32⟩
  | .hbm, ⟨101, _⟩ => ⟨S10, .f32⟩
  | .hbm, ⟨102, _⟩ => ⟨S_, .f32⟩
  | .hbm, ⟨103, _⟩ => ⟨S_, .f32⟩
  | _, _ => ⟨S4194304x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_cst : Ref sig .tc := ⟨.hbm, 31, rfl⟩
abbrev main_call1_v3 : Ref sig .tc := ⟨.hbm, 32, rfl⟩
abbrev main_call1_v4 : Ref sig .tc := ⟨.hbm, 33, rfl⟩
abbrev main_call1_cst_0 : Ref sig .tc := ⟨.hbm, 34, rfl⟩
abbrev main_call1_v5 : Ref sig .tc := ⟨.hbm, 35, rfl⟩
abbrev main_call1_v6 : Ref sig .tc := ⟨.hbm, 36, rfl⟩
abbrev main_call1_cst_1 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_v19 : Ref sig .tc := ⟨.hbm, 44, rfl⟩
abbrev main_cst_3 : Ref sig .tc := ⟨.hbm, 45, rfl⟩
abbrev main_cst_4 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_cst : Ref sig .tc := ⟨.hbm, 50, rfl⟩
abbrev main_call2_v3 : Ref sig .tc := ⟨.hbm, 51, rfl⟩
abbrev main_call2_v4 : Ref sig .tc := ⟨.hbm, 52, rfl⟩
abbrev main_call2_cst_0 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_cst_1 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_call2_v15 : Ref sig .tc := ⟨.hbm, 65, rfl⟩
abbrev main_call2_v16 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_c : Ref sig .tc := ⟨.hbm, 75, rfl⟩
abbrev main_v28 : Ref sig .tc := ⟨.hbm, 76, rfl⟩
abbrev main_c_5 : Ref sig .tc := ⟨.hbm, 77, rfl⟩
abbrev main_v29 : Ref sig .tc := ⟨.hbm, 78, rfl⟩
abbrev main_c_6 : Ref sig .tc := ⟨.hbm, 79, rfl⟩
abbrev main_call3_v0 : Ref sig .tc := ⟨.hbm, 80, rfl⟩
abbrev main_call3_v1 : Ref sig .tc := ⟨.hbm, 81, rfl⟩
abbrev main_v30 : Ref sig .tc := ⟨.hbm, 82, rfl⟩
abbrev main_c_7 : Ref sig .tc := ⟨.hbm, 83, rfl⟩
abbrev main_v31 : Ref sig .tc := ⟨.hbm, 84, rfl⟩
abbrev main_v32 : Ref sig .tc := ⟨.hbm, 85, rfl⟩
abbrev main_c_8 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_c_9 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_10 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_11 : Ref sig .tc := ⟨.hbm, 99, rfl⟩
abbrev main_v43 : Ref sig .tc := ⟨.hbm, 100, rfl⟩
abbrev main_v44 : Ref sig .tc := ⟨.hbm, 101, rfl⟩
abbrev main_cst_12 : Ref sig .tc := ⟨.hbm, 102, rfl⟩
abbrev main_v45 : Ref sig .tc := ⟨.hbm, 103, rfl⟩

abbrev nD : Nat := 1
abbrev τ : Topo := Topo.v7x

variable {F : FTy → Type} [FloatOps F]
-- ==== Proof.Step.lean ====
/-
  One grid point of the kernel: what each of its three kinds of point leaves in the nine counters and in the result.
-/
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.CellWrites
public import Idealize.ShloMosaic.Lib.WholeRead

@[expose] public section

noncomputable section

namespace Cert.Wedge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Counter `k`'s word of the scratch. -/
def slot (k : Fin 9) : S16.Idx := fun a => ⟨k.val, by
  have : a = 0 := Subsingleton.elim _ _
  subst this; exact lt_of_lt_of_le k.isLt (by decide)⟩

/-- What a point adds to counter `k` standing at `a`, from its blocks `x` and `y` of the two columns. -/
def bump (x y : Vec F S8192x128 .f32) (a : F .f32) : Fin 9 → F .f32
  | 0 => k0_pay14 x y a
  | 1 => k0_pay18 (k0_pay10 x) (k0_pay11 y) (k0_pay12 y) a
  | 2 => k0_pay21 (k0_pay12 y) (k0_pay20 (k0_pay10 x) (k0_pay11 y)) (Scalar.ofBits .f32 0x00000000#32) a
  | 3 => k0_pay1 (k0_pay24 (k0_pay10 x) (k0_pay11 y) (k0_pay12 y)) a k0_pay26 k0_pay27
  | 4 => k0_pay3 (k0_pay12 y) a
  | 5 => k0_pay16 a (k0_pay15 x y)
  | 6 => k0_pay19 (k0_pay10 x) (k0_pay11 y) (k0_pay12 y) a
  | 7 => k0_pay22 (k0_pay12 y) (k0_pay20 (k0_pay10 x) (k0_pay11 y)) a
  | 8 => k0_pay2 (k0_pay25 (k0_pay10 x) (k0_pay11 y) (k0_pay12 y)) a

/-- The statistic the last point computes from the nine counters. -/
def stat (t : Fin 9 → F .f32) : F .f32 :=
  k0_pay4 (t 8) (k0_pay5 (t 5) (t 6)) (k0_pay6 (t 6) (t 7)) (k0_pay7 (t 7) (t 8))
    (k0_pay8 (t 0) (t 1) (t 2) (t 3) (t 4)) (k0_pay9 (t 4) (t 5))

/-- Under a one-word store at word `j`, counter `k` reads the stored word when `k` is `j`, and otherwise what was there. -/
theorem word_writes {κ : Kind} {sp : Space} {e : EltTy} {Val : EltTy → Type} (v : View sig κ sp S16 e) (f : v.ty.Contents Val) (j : ℕ)
    (inb : ∀ a, (![j] : Fin 1 → ℕ) a + S1.size a ≤ S16.size a) (p : Val e) (L : List (View.Piece Val S16 e)) (k : Fin 9) :
    v.read Val (v.writes Val f ((⟨Rect.unit (s := S16) ![j] S1.size inb, fun _ => p⟩ : View.Piece Val S16 e) :: L)) (slot k)
      = if k.val = j then p else v.read Val (v.writes Val f L) (slot k) :=
  View.read_writes_cons_cell v f inb p L (slot k)

/-- After a store of the one word of a one-word buffer, the buffer reads that word. -/
theorem one_word_writes {κ : Kind} {sp : Space} {e : EltTy} {Val : EltTy → Type} (v : View sig κ sp S1 e) (f : v.ty.Contents Val)
    (inb : ∀ a, (![0] : Fin 1 → ℕ) a + S1.size a ≤ S1.size a) (p : Val e) (L : List (View.Piece Val S1 e)) (z : S1.Idx) :
    v.read Val (v.writes Val f ((⟨Rect.unit (s := S1) ![0] S1.size inb, fun _ => p⟩ : View.Piece Val S1 e) :: L)) z = p := by
  refine (View.read_writes_cons_cell v f inb p L z).trans (if_pos ?_)
  have := (z 0).isLt
  change _ < 1 at this
  change (z 0).val = 0
  omega

/-- A load of word `j` of a whole buffer that reads `s` is counter `j` of `s`. -/
theorem word_load {κ : Kind} {sp : Space} {e : EltTy} {Val : EltTy → Type} {m : Memref sig κ sp S16 e} (h : m.IsWhole) (s : S16.Idx → Val e)
    (k : Fin 9) (inb : ∀ a, (![k.val] : Fin 1 → ℕ) a + S1.size a ≤ S16.size a) (x) :
    View.readAt Val m.view (Rect.unit (s := S16) ![k.val] S1.size inb).toLoadRect (h.unread s) x = s (slot k) := by
  rw [h.readAt_unread]
  congr 1
  funext a
  have : a = 0 := Subsingleton.elim _ _
  subst this
  ext
  have : (x 0).val = 0 := by
    have := (x 0).isLt
    change _ < 1 at this
    omega
  change k.val + 1 * (x 0).val = k.val
  omega

/-- A load of a whole block from a whole buffer that reads `X` is `X`. -/
theorem block_load {κ : Kind} {sp : Space} {e : EltTy} {Val : EltTy → Type} {m : Memref sig κ sp S8192x128 e} (h : m.IsWhole)
    (X : S8192x128.Idx → Val e) (inb : ∀ a, (![0, 0] : Fin 2 → ℕ) a + S8192x128.size a ≤ S8192x128.size a) :
    View.readAt Val m.view (Rect.unit (s := S8192x128) ![0, 0] S8192x128.size inb).toLoadRect (h.unread X) = X := by
  funext x
  rw [h.readAt_unread]
  congr 1
  funext a
  ext
  fin_cases a
  · change 0 + 1 * (x 0).val = (x 0).val
    omega
  · change 0 + 1 * (x 1).val = (x 1).val
    omega

/-- The kernel's first condition at a point: it is the first. -/
abbrev isFirst (i : grid0.Coords) : Prop :=
  (Scalar.cmpi .ne (Scalar.extui (Scalar.cmpi .eq (BitVec.ofNat 32 (i 0).val) 0#32)) 0#32) = 1#1

/-- The kernel's second condition at a point: it is the last. -/
abbrev isLast (i : grid0.Coords) : Prop := k0_cond2 i = 1#1

/-- Counter `k`'s word lies in the scratch. -/
theorem slot_inb (k : Fin 9) : ∀ a, (![k.val] : Fin 1 → ℕ) a + S1.size a ≤ S16.size a := by
  revert k; decide

/-- Counter `k`'s one-word region is not empty. -/
theorem slot_pos (k : Fin 9) : 0 < (Rect.unit (s := S16) ![k.val] S1.size (slot_inb k)).shape.numel := by
  change 0 < S1.numel
  decide

/-- A counter grown from `a`, in terms of the block loads the point makes. -/
theorem counters_eq_blocks {κ : Kind} {sp : Space} {m1 m2 : Memref sig κ sp S8192x128 .f32} (h1 : m1.IsWhole) (h2 : m2.IsWhole)
    (x y : Vec F S8192x128 .f32) (a : F .f32) (k : Fin 9) :
    bump x y a k
      = bump (View.readAt (Elt F) m1.view (Rect.unit (s := S8192x128) ![0, 0] S8192x128.size inb_S8192x128_S8192x128_0_0).toLoadRect (h1.unread x))
          (View.readAt (Elt F) m2.view (Rect.unit (s := S8192x128) ![0, 0] S8192x128.size inb_S8192x128_S8192x128_0_0).toLoadRect (h2.unread y))
          a k := by
  rw [block_load, block_load]

/-- A counter after a point, in terms of the loads the point makes. -/
theorem counters_eq {κ : Kind} {sp sp' : Space} {m1 m2 : Memref sig κ sp S8192x128 .f32} {m4 : Memref sig κ sp' S16 .f32} (h1 : m1.IsWhole)
    (h2 : m2.IsWhole) (h4 : m4.IsWhole) (x y : Vec F S8192x128 .f32) (s : Vec F S16 .f32) (k : Fin 9)
    (inb : ∀ a, (![k.val] : Fin 1 → ℕ) a + S1.size a ≤ S16.size a) (z) :
    bump x y (s (slot k)) k
      = bump (View.readAt (Elt F) m1.view (Rect.unit (s := S8192x128) ![0, 0] S8192x128.size inb_S8192x128_S8192x128_0_0).toLoadRect (h1.unread x))
          (View.readAt (Elt F) m2.view (Rect.unit (s := S8192x128) ![0, 0] S8192x128.size inb_S8192x128_S8192x128_0_0).toLoadRect (h2.unread y))
          (View.readAt (Elt F) m4.view (Rect.unit (s := S16) ![k.val] S1.size inb).toLoadRect (h4.unread s) z) k := by
  rw [block_load, block_load, word_load]

set_option maxHeartbeats 4000000 in
/-- A middle point: each counter grows by what its two blocks hold. -/
theorem run_middle (c : Dev nD) (i : grid0.Coords) (arg1 : Memref sig .tc .vmem S8192x128 .f32) (harg1 : arg1.IsWhole)
    (arg2 : Memref sig .tc .vmem S8192x128 .f32) (harg2 : arg2.IsWhole) (arg3 : Memref sig .tc .smem S1 .f32) (harg3 : arg3.IsWhole)
    (arg4 : Memref sig .tc .smem S16 .f32) (harg4 : arg4.IsWhole) (hc0 : ¬ isFirst i) (hc1 : ¬ isLast i)
    (x y : Vec F S8192x128 .f32) (o : Vec F S1 .f32) (s : Vec F S16 .f32) (E : Set ℕ) (K : PUnit → sProp 𝕄) :
    iprop(owns (c : Thread nD τ) arg1 fullShare x ∗ owns (c : Thread nD τ) arg2 fullShare y ∗ owns (c : Thread nD τ) arg3 fullShare o
        ∗ owns (c : Thread nD τ) arg4 fullShare s
        ∗ (iprop(owns (c : Thread nD τ) arg1 fullShare x ∗ owns (c : Thread nD τ) arg2 fullShare y ∗ owns (c : Thread nD τ) arg3 fullShare o
            ∗ (∃ s' : Vec F S16 .f32, iprop(⌜∀ k : Fin 9, s' (slot k) = bump x y (s (slot k)) k⌝
                ∗ owns (c : Thread nD τ) arg4 fullShare s'))) -∗ K ⟨⟩))
      ⊢ wp frame (wpE (defs₀ (F := F)) Variants.none c none) E (cc0_body i arg1 harg1 arg2 harg2 arg3 harg3 arg4 harg4) K := by
  simp only [cc0_body_eq_skeleton]; unfold cc0_body_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2; obtain rfl := harg4.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists (arg4.view.read (Elt F) _)
  isplitr
  swap
  · iexists _; isplitr; swap; · iexact HS0
    ipureintro; rfl
  ipureintro
  intro k
  rw [counters_eq harg1 harg2 harg4 x y s k (slot_inb k) (Shape.Idx.first (slot_pos k))]
  fin_cases k <;>
  · repeat rw [word_writes, if_neg (by decide)]
    rw [word_writes, if_pos (by decide)]
    rfl

set_option maxHeartbeats 4000000 in
/-- The first point: the counters are cleared and then grow by what its two blocks hold. -/
theorem run_first (c : Dev nD) (i : grid0.Coords) (arg1 : Memref sig .tc .vmem S8192x128 .f32) (harg1 : arg1.IsWhole)
    (arg2 : Memref sig .tc .vmem S8192x128 .f32) (harg2 : arg2.IsWhole) (arg3 : Memref sig .tc .smem S1 .f32) (harg3 : arg3.IsWhole)
    (arg4 : Memref sig .tc .smem S16 .f32) (harg4 : arg4.IsWhole) (hc0 : isFirst i) (hc1 : ¬ isLast i)
    (x y : Vec F S8192x128 .f32) (o : Vec F S1 .f32) (s : Vec F S16 .f32) (E : Set ℕ) (K : PUnit → sProp 𝕄) :
    iprop(owns (c : Thread nD τ) arg1 fullShare x ∗ owns (c : Thread nD τ) arg2 fullShare y ∗ owns (c : Thread nD τ) arg3 fullShare o
        ∗ owns (c : Thread nD τ) arg4 fullShare s
        ∗ (iprop(owns (c : Thread nD τ) arg1 fullShare x ∗ owns (c : Thread nD τ) arg2 fullShare y ∗ owns (c : Thread nD τ) arg3 fullShare o
            ∗ (∃ s' : Vec F S16 .f32, iprop(⌜∀ k : Fin 9, s' (slot k) = bump x y (Scalar.ofBits .f32 0x00000000#32) k⌝
                ∗ owns (c : Thread nD τ) arg4 fullShare s'))) -∗ K ⟨⟩))
      ⊢ wp frame (wpE (defs₀ (F := F)) Variants.none c none) E (cc0_body i arg1 harg1 arg2 harg2 arg3 harg3 arg4 harg4) K := by
  simp only [cc0_body_eq_skeleton]; unfold cc0_body_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2; obtain rfl := harg4.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists (arg4.view.read (Elt F) _)
  isplitr
  swap
  · iexists _; isplitr; swap; · iexact HS0
    ipureintro; rfl
  ipureintro
  intro k
  rw [counters_eq_blocks harg1 harg2]
  fin_cases k <;>
  · repeat rw [word_writes, if_neg (by decide)]
    rw [word_writes, if_pos (by decide)]
    rfl

set_option maxHeartbeats 4000000 in
/-- The last point: the counters grow, and the statistic of the grown counters is stored. -/
theorem run_last (c : Dev nD) (i : grid0.Coords) (arg1 : Memref sig .tc .vmem S8192x128 .f32) (harg1 : arg1.IsWhole)
    (arg2 : Memref sig .tc .vmem S8192x128 .f32) (harg2 : arg2.IsWhole) (arg3 : Memref sig .tc .smem S1 .f32) (harg3 : arg3.IsWhole)
    (arg4 : Memref sig .tc .smem S16 .f32) (harg4 : arg4.IsWhole) (hc0 : ¬ isFirst i) (hc1 : isLast i)
    (x y : Vec F S8192x128 .f32) (o : Vec F S1 .f32) (s : Vec F S16 .f32) (E : Set ℕ) (K : PUnit → sProp 𝕄) :
    iprop(owns (c : Thread nD τ) arg1 fullShare x ∗ owns (c : Thread nD τ) arg2 fullShare y ∗ owns (c : Thread nD τ) arg3 fullShare o
        ∗ owns (c : Thread nD τ) arg4 fullShare s
        ∗ (iprop(owns (c : Thread nD τ) arg1 fullShare x ∗ owns (c : Thread nD τ) arg2 fullShare y ∗ owns (c : Thread nD τ) arg3 fullShare (fun _ => stat (fun k => bump x y (s (slot k)) k))
            ∗ (∃ s' : Vec F S16 .f32, iprop(⌜∀ k : Fin 9, s' (slot k) = bump x y (s (slot k)) k⌝
                ∗ owns (c : Thread nD τ) arg4 fullShare s'))) -∗ K ⟨⟩))
      ⊢ wp frame (wpE (defs₀ (F := F)) Variants.none c none) E (cc0_body i arg1 harg1 arg2 harg2 arg3 harg3 arg4 harg4) K := by
  simp only [cc0_body_eq_skeleton]; unfold cc0_body_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2; obtain rfl := harg4.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    funext z
    rw [one_word_writes,
      show (fun k => bump x y (s (slot k)) k) = fun k => _ from
        funext fun k => counters_eq harg1 harg2 harg4 x y s k (slot_inb k) (Shape.Idx.first (slot_pos k))]
    rfl
  iexists (arg4.view.read (Elt F) _)
  isplitr
  swap
  · iexists _; isplitr; swap; · iexact HS0
    ipureintro; rfl
  ipureintro
  intro k
  rw [counters_eq harg1 harg2 harg4 x y s k (slot_inb k) (Shape.Idx.first (slot_pos k))]
  fin_cases k <;>
  · repeat rw [word_writes, if_neg (by decide)]
    rw [word_writes, if_pos (by decide)]
    rfl

end Cert.Wedge
-- ==== Proof.Launch.lean ====
/-
  The whole run of the kernel: the nine counters point by point, the body's obligation at every point, and the launch.
-/
module

public import proofs.«01_k».proof.Proof.Step
public import Idealize.ShloMosaic.Lib.Claim

@[expose] public section

set_option maxRecDepth 16384

noncomputable section

namespace Cert.Wedge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point is first, which is last -/

/-- The first condition holds at the first point only. -/
theorem isFirst_iff (t : Fin cfg0.N) : isFirst (grid0.coords t) ↔ t.val = 0 := by
  have ht : t.val < 4 := Nat.lt_of_lt_of_eq t.isLt N_0
  have e0 : (grid0.coords t 0).val = t.val / 1 % 4 := Pipeline.Grid.coords_val t 0 (by decide) rfl
  have : isFirst (grid0.coords t) ↔ t.val % 4 = 0 := by
    simp only [isFirst, e0]
    word_cmp
  rw [this]; omega

/-- The second condition holds at the last point only. -/
theorem isLast_iff (t : Fin cfg0.N) : isLast (grid0.coords t) ↔ t.val = 3 := by
  have ht : t.val < 4 := Nat.lt_of_lt_of_eq t.isLt N_0
  have e0 : (grid0.coords t 0).val = t.val / 1 % 4 := Pipeline.Grid.coords_val t 0 (by decide) rfl
  have : isLast (grid0.coords t) ↔ t.val % 4 = 3 := by
    simp only [isLast, k0_cond2, e0]
    word_cmp
  rw [this]; omega

/-- Away from the last point the result window is idle. -/
theorem result_idle : ∀ t : Fin cfg0.N, ¬ isLast (grid0.coords t) → cfg0.idle 2 (grid0.coords t) = true := by decide +kernel
/-- Away from the last point the result is not written back. -/
theorem result_unflushed : ∀ t : Fin cfg0.N, ¬ isLast (grid0.coords t) → (cfg0.win 2).flush t = false := by decide +kernel
/-- At the last point the result window is live. -/
theorem result_live : ∀ t : Fin cfg0.N, isLast (grid0.coords t) → cfg0.idle 2 (grid0.coords t) = false := by decide +kernel

/-! ## The buffers a point works on -/

/-- The staging buffer of window 0 at a point. -/
abbrev stgX (t : Fin cfg0.N) : Memref sig .tc .vmem S8192x128 .f32 := win0_0.stage (cfg0.slots t 0)
/-- The staging buffer of window 1 at a point. -/
abbrev stgY (t : Fin cfg0.N) : Memref sig .tc .vmem S8192x128 .f32 := win0_1.stage (cfg0.slots t 1)
/-- The staging buffer of the result at a point. -/
abbrev stgO (t : Fin cfg0.N) : Memref sig .tc .smem S1 .f32 := win0_2.stage (cfg0.slots t 2)
/-- The counters' scratch. -/
abbrev scr : Memref sig .tc .smem S16 .f32 := Memref.whole cc0_scratch0

/-- What the launch hands the region: the scratch at anything and the generator register at some state. -/
theorem handed_eq (c : Dev nD) : (Pipeline.ΦA spec0 c : sProp 𝕄)
    = iprop(iprop(∃ d, owns (c : Thread nD τ) scr fullShare d) ∗ (∃ r, prngReg c r)) := by
  unfold Pipeline.ΦA
  rw [scopedRest0_eq]
  simp only [scr, owns_whole]
  try rfl

/-! ## The counters -/

/-- The nine counters after point `n`. -/
def counters (c : Dev nD) : (n : ℕ) → n < cfg0.N → Fin 9 → F .f32
  | 0, hn => fun k => bump (iblk m c 0 ⟨0, hn⟩) (iblk m c 1 ⟨0, hn⟩) (Scalar.ofBits .f32 0x00000000#32) k
  | n + 1, hn => fun k => bump (iblk m c 0 ⟨n + 1, hn⟩) (iblk m c 1 ⟨n + 1, hn⟩) (counters c n (Nat.lt_of_succ_lt hn) k) k

/-- What holds of the scratch before point `n`: anything at first, then the counters of the point before. -/
def inv (c : Dev nD) : (n : ℕ) → n ≤ cfg0.N → sProp 𝕄
  | 0, _ => Pipeline.ΦA spec0 c
  | n + 1, hn => iprop((∃ s : Vec F S16 .f32, iprop(⌜∀ k, s (slot k) = counters m c n hn k⌝ ∗ owns (c : Thread nD τ) scr fullShare s))
      ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun _ => stat (counters m c t.val t.isLt)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_y (c : Dev nD) (t : Fin cfg0.N) : (dats m 0 c).after 1 t = iblk m c 1 t := by dsimp only [dats]
theorem after_o (c : Dev nD) (t : Fin cfg0.N) : (dats m 0 c).after 2 t = fun _ => stat (counters m c t.val t.isLt) := by dsimp only [dats]

theorem before_x (c : Dev nD) (t : Fin cfg0.N) (d) : (dats m 0 c).before 0 t d = iblk m c 0 t :=
  before0_0_of m (dats m 0 c) (A_eq m c 0) (after_x m c) t d
theorem before_y (c : Dev nD) (t : Fin cfg0.N) (d) : (dats m 0 c).before 1 t d = iblk m c 1 t :=
  before0_1_of m (dats m 0 c) (A_eq m c 1) (after_y m c) t d

theorem leaves_x (c : Dev nD) (t : Fin cfg0.N) :
    (dats m 0 c).leavesExact 0 t = owns (c : Thread nD τ) (stgX t) fullShare (iblk m c 0 t) := by
  rw [← after_x]
theorem leaves_y (c : Dev nD) (t : Fin cfg0.N) :
    (dats m 0 c).leavesExact 1 t = owns (c : Thread nD τ) (stgY t) fullShare (iblk m c 1 t) := by
  rw [← after_y]

/-! ## The body's obligation -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (stgX t) fullShare ((dats m 0 c).before 0 t d))
    ∗ (∃ d, owns (c : Thread nD τ) (stgY t) fullShare ((dats m 0 c).before 1 t d))
    ∗ (∃ d, owns (c : Thread nD τ) (stgO t) fullShare ((dats m 0 c).before 2 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 4000000 in
/-- The body's triple at any point, by the kind of the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_y]
  rw [leaves_x, leaves_y, show (dats m 0 c).owesAt () t.succ = (dats m 0 c).owesAt () t.castSucc from rfl,
    show (dats m 0 c).Φ t.castSucc = inv m c t.val (Nat.le_of_lt t.isLt) from rfl,
    show (dats m 0 c).Φ t.succ = inv m c (t.val + 1) t.isLt from rfl]
  by_cases h1 : isLast (grid0.coords t)
  · have h3 := (isLast_iff t).mp h1
    have h0 : ¬ isFirst (grid0.coords t) := fun h => by have := (isFirst_iff t).mp h; omega
    rw [show (dats m 0 c).leavesExact 2 t = owns (c : Thread nD τ) (stgO t) fullShare ((dats m 0 c).after 2 t) from by
      unfold Dat.leavesExact; rw [result_live t h1], after_o]
    obtain ⟨n, hn⟩ := t
    obtain _ | n := n
    · simp at h3
    · unfold inv
      iintro ⟨⟨⟨%s, %hs, HS⟩, Hg⟩, Ho, ⟨%d0, H0⟩, ⟨%d1, H1⟩, ⟨%d2, H2⟩⟩
      iapply run_last c (grid0.coords ⟨n + 1, hn⟩) _ _ _ _ _ _ _ _ h0 h1 (iblk m c 0 ⟨n + 1, hn⟩) (iblk m c 1 ⟨n + 1, hn⟩) _ s Set.univ _
      isplitl [H0]; · iexact H0
      isplitl [H1]; · iexact H1
      isplitl [H2]; · iexact H2
      isplitl [HS]; · iexact HS
      have hc : (fun k => bump (iblk m c 0 ⟨n + 1, hn⟩) (iblk m c 1 ⟨n + 1, hn⟩) (s (slot k)) k) = counters m c (n + 1) hn := by
        funext k; rw [hs k]; rfl
      rw [hc]
      iintro ⟨H0, H1, H2, ⟨%s', %hs', HS⟩⟩
      isplitl [HS Hg]
      · isplitl [HS]
        · iexists s'; isplitr; swap; · iexact HS
          ipureintro; intro k; rw [hs' k]; exact congrFun hc k
        iexact Hg
      isplitl [Ho]; · iexact Ho
      isplitl [H0]; · iexact H0
      isplitl [H1]; · iexact H1
      iexact H2
  · rw [Dat.leavesExact_idle (dats m 0 c) 2 t (result_idle t h1) (result_unflushed t h1)]
    obtain ⟨n, hn⟩ := t
    obtain _ | n := n
    · have h0 : isFirst (grid0.coords ⟨0, hn⟩) := (isFirst_iff _).mpr rfl
      unfold inv
      rw [handed_eq]
      iintro ⟨⟨⟨%s, HS⟩, Hg⟩, Ho, ⟨%d0, H0⟩, ⟨%d1, H1⟩, ⟨%d2, H2⟩⟩
      iapply run_first c (grid0.coords ⟨0, hn⟩) _ _ _ _ _ _ _ _ h0 h1 (iblk m c 0 ⟨0, hn⟩) (iblk m c 1 ⟨0, hn⟩) _ s Set.univ _
      isplitl [H0]; · iexact H0
      isplitl [H1]; · iexact H1
      isplitl [H2]; · iexact H2
      isplitl [HS]; · iexact HS
      iintro ⟨H0, H1, H2, ⟨%s', %hs', HS⟩⟩
      isplitl [HS Hg]
      · isplitl [HS]
        · iexists s'; isplitr; swap; · iexact HS
          ipureintro; exact hs'
        iexact Hg
      isplitl [Ho]; · iexact Ho
      isplitl [H0]; · iexact H0
      isplitl [H1]; · iexact H1
      iexists _; iexact H2
    · have h0 : ¬ isFirst (grid0.coords ⟨n + 1, hn⟩) := fun h => by have := (isFirst_iff _).mp h; simp at this
      unfold inv
      iintro ⟨⟨⟨%s, %hs, HS⟩, Hg⟩, Ho, ⟨%d0, H0⟩, ⟨%d1, H1⟩, ⟨%d2, H2⟩⟩
      iapply run_middle c (grid0.coords ⟨n + 1, hn⟩) _ _ _ _ _ _ _ _ h0 h1 (iblk m c 0 ⟨n + 1, hn⟩) (iblk m c 1 ⟨n + 1, hn⟩) _ s Set.univ _
      isplitl [H0]; · iexact H0
      isplitl [H1]; · iexact H1
      isplitl [H2]; · iexact H2
      isplitl [HS]; · iexact HS
      iintro ⟨H0, H1, H2, ⟨%s', %hs', HS⟩⟩
      isplitl [HS Hg]
      · isplitl [HS]
        · iexists s'; isplitr; swap; · iexact HS
          ipureintro; intro k; rw [hs' k, hs k]; rfl
        iexact Hg
      isplitl [Ho]; · iexact Ho
      isplitl [H0]; · iexact H0
      isplitl [H1]; · iexact H1
      iexists _; iexact H2

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem handed_in (c : Dev nD) : Pipeline.ΦA spec0 c ⊢ (dats m 0 c).Φ 0 := Idealize.SL.BI.Entails.refl _

/-- After the last point the invariant gives it back. -/
theorem handed_out (c : Dev nD) : (dats m 0 c).Φ (Fin.last cfg0.N) ⊢ Pipeline.ΦA spec0 c := by
  rw [show (dats m 0 c).Φ (Fin.last cfg0.N) = inv m c (3 + 1) (le_of_eq N_0.symm) from rfl, handed_eq]
  unfold inv
  iintro ⟨⟨%s, %hs, HS⟩, Hg⟩
  isplitl [HS]
  · iexists s; iexact HS
  iexact Hg

/-! ## The run -/

set_option backward.isDefEq.respectTransparency.types false in
set_option maxHeartbeats 800000 in
/-- Every run of the kernel ends, with the pipeline's arrays at what the proof data says and every counter at zero. -/
theorem run_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := handed_in m) (hout := handed_out m)

/-- The arrays at the end of a run. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- Every run of the kernel ends with its argument unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_quiescent m ρ))

end Cert.Wedge
-- ==== Proof.Frames.lean ====
/-
  The runs of the three programs: each ends, leaves its argument as it was and every semaphore counter at zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_rows_clear_of_gaps
public import proofs.«01_k».proof.Proof.Launch
public import proofs.«01_k».proof.Proof.Printed.Launch

@[expose] public section

noncomputable section

namespace Cert.Frames

open Idealize.ShloMosaic Idealize.SL.Sem

/-- The kernel as printed. -/
theorem kernel : Cert.quiescent_Kernel := fun m ρ _ => Cert.WedgePrinted.frame_run (F := Bits) m ρ

/-- The kernel at the ideal instance. -/
theorem kernelIdeal : Cert.quiescent_KernelIdeal := fun m ρ _ => Cert.Wedge.frame_run (F := Ideal) m ρ

/-- The reference at the ideal instance. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel at the ideal instance, from the inputs of the precondition. -/
theorem kernelIdeal_pre : Cert.quiescent_KernelIdeal_pre_rows_clear_of_gaps := fun m ρ _ => kernelIdeal m ρ trivial

/-- The reference at the ideal instance, from the inputs of the precondition. -/
theorem referenceIdeal_pre : Cert.quiescent_ReferenceIdeal_pre_rows_clear_of_gaps := fun m ρ _ => referenceIdeal m ρ trivial

end Cert.Frames
-- ==== Proof.Tally.lean ====
/-
  One grid point at the ideal values: each counter grows by the number of points of the block that meet its condition.
-/
module

public import proofs.«01_k».proof.Proof.Step
public import Idealize.ShloMosaic.Lib.Pipeline.Value
public import Idealize.ShloMosaic.Lib.ValueIdx
public import Idealize.ShloMosaic.PureOps.Ideal.Laws

@[expose] public section

noncomputable section

namespace Cert.Wedge

open Cert.KernelIdeal Cert.KernelIdeal.Gen
open Idealize.ShloMosaic
open scoped BigOperators

/-- The words of the four directions' sines. -/
def sinWord : Fin 4 → BitVec 32
  | 0 => 0x3F167918#32 | 1 => 0x3F737871#32 | 2 => 0x3F737870#32 | 3 => 0x3F167917#32
/-- The words of the four directions' cosines. -/
def cosWord : Fin 4 → BitVec 32
  | 0 => 0x3F4F1BBD#32 | 1 => 0x3E9E3779#32 | 2 => 0xBE9E377B#32 | 3 => 0xBF4F1BBE#32

/-- The cross product of direction `k` and the point `(x, y)`. -/
def cross (k : Fin 4) (x y : EReal) : EReal :=
  Ideal.ofBits .f32 (cosWord k) * y - Ideal.ofBits .f32 (sinWord k) * x

/-- The condition counter `k` counts: below the first axis or left of direction `k`; below the first axis; below it
and right of the direction's line. -/
def hit : Fin 9 → EReal → EReal → Prop
  | 0, x, y => y < 0 ∨ 0 < cross 0 x y
  | 1, x, y => y < 0 ∨ 0 < cross 1 x y
  | 2, x, y => y < 0 ∨ 0 < cross 2 x y
  | 3, x, y => y < 0 ∨ 0 < cross 3 x y
  | 4, _, y => y < 0
  | 5, x, y => y < 0 ∧ cross 0 x y < 0
  | 6, x, y => y < 0 ∧ cross 1 x y < 0
  | 7, x, y => y < 0 ∧ cross 2 x y < 0
  | 8, x, y => y < 0 ∧ cross 3 x y < 0

open Classical in
/-- The total a point adds to a counter, from the mask it selects ones by. -/
theorem added (msk : IVec S8192x128 1) (a : EReal) :
    Scalar.addf (F := Ideal) (φ := .f32) a (extractAt ![0, 0, 0] (shapeCast S1x1x1
      (multiReduction .add [1, 2] S1 (shapeCast S1x8192x128 (select msk
        (broadcast S8192x128 (Scalar.ofBits (F := Ideal) .f32 0x3F800000#32))
        (broadcast S8192x128 (Scalar.ofBits (F := Ideal) .f32 0x00000000#32))) shapeCasts_S8192x128_S1x8192x128)
        0x00000000#32 reduces_S1x8192x128_S1 (.inl rfl) rfl) shapeCasts_S1_S1x1x1) inpos_S1x1x1_p0_0_0)
      = a + ∑ i : S8192x128.Idx, if msk i = 1#1 then (1 : EReal) else 0 := by
  refine congrArg (a + ·) ((Ideal.multiReduction_add_total (φ := .f32) _ 0x00000000#32 _ (by decide) (.inl rfl) rfl _).trans ?_)
  refine (Equiv.sum_comp (Shape.reshapeEquiv shapeCasts_S8192x128_S1x8192x128) (fun i => select msk
        (broadcast S8192x128 (Scalar.ofBits (F := Ideal) .f32 0x3F800000#32))
        (broadcast S8192x128 (Scalar.ofBits (F := Ideal) .f32 0x00000000#32)) i)).trans ?_
  refine Finset.sum_congr rfl fun i _ => ?_
  have h1 : Ideal.ofBits .f32 0x3F800000#32 = 1 := by simp [Ideal.ofBits, Ideal.ieee, -EReal.coe_mul]; norm_num
  show (if msk i = 1#1 then Ideal.ofBits .f32 0x3F800000#32 else Ideal.ofBits .f32 0x00000000#32) = _
  rw [h1, Ideal.ofBits_zero_f32]

theorem pay10_eq (x : Vec Ideal S8192x128 .f32) : k0_pay10 x = x := shapeCast_self _ _
theorem pay11_eq (y : Vec Ideal S8192x128 .f32) : k0_pay11 y = y := shapeCast_self _ _

/-- The bit of a decided proposition. -/
theorem bit_one (P : Prop) [Decidable P] : BitVec.ofBool (decide P) = 1#1 ↔ P := by
  by_cases h : P <;> simp [h]
/-- The bit of a comparison "less than zero". -/
theorem olt_zero (z : EReal) : Ideal.cmp .olt z (Ideal.ofBits .f32 0x00000000#32) = 1#1 ↔ z < 0 := by
  rw [Ideal.ofBits_zero_f32]; exact bit_one _
/-- The bit of a comparison "greater than zero". -/
theorem ogt_zero (z : EReal) : Ideal.cmp .ogt z (Ideal.ofBits .f32 0x00000000#32) = 1#1 ↔ 0 < z := by
  rw [Ideal.ofBits_zero_f32]; exact bit_one _
/-- The or of two bits is one when either is. -/
theorem ori_one (a b : BitVec 1) : IntOp.ori a b = 1#1 ↔ a = 1#1 ∨ b = 1#1 := by
  revert a b; decide
/-- The and of two bits is one when both are. -/
theorem andi_one (a b : BitVec 1) : IntOp.andi a b = 1#1 ↔ a = 1#1 ∧ b = 1#1 := by
  revert a b; decide

/-- The mask of the points below the first axis or left of a direction. -/
def maskLo (k : Fin 4) (x y : Vec Ideal S8192x128 .f32) : IVec S8192x128 1 :=
  ori (k0_pay12 y) (cmpf .ogt (subf (mulf (broadcast S8192x128 (Scalar.ofBits .f32 (cosWord k))) (k0_pay11 y))
    (mulf (broadcast S8192x128 (Scalar.ofBits .f32 (sinWord k))) (k0_pay10 x)))
    (broadcast S8192x128 (Scalar.ofBits (F := Ideal) .f32 0x00000000#32)))
/-- The mask of the points below the first axis and right of a direction. -/
def maskHi (k : Fin 4) (x y : Vec Ideal S8192x128 .f32) : IVec S8192x128 1 :=
  andi (k0_pay12 y) (cmpf .olt (subf (mulf (broadcast S8192x128 (Scalar.ofBits .f32 (cosWord k))) (k0_pay11 y))
    (mulf (broadcast S8192x128 (Scalar.ofBits .f32 (sinWord k))) (k0_pay10 x)))
    (broadcast S8192x128 (Scalar.ofBits (F := Ideal) .f32 0x00000000#32)))

theorem below_iff (y : Vec Ideal S8192x128 .f32) (i : S8192x128.Idx) : k0_pay12 y i = 1#1 ↔ y i < (0 : EReal) := by
  have h : k0_pay12 y i = Ideal.cmp .olt (k0_pay11 y i) (Ideal.ofBits .f32 0x00000000#32) := rfl
  rw [h, pay11_eq, olt_zero]

theorem maskLo_iff (k : Fin 4) (x y : Vec Ideal S8192x128 .f32) (i : S8192x128.Idx) :
    maskLo k x y i = 1#1 ↔ y i < (0 : EReal) ∨ 0 < cross k (x i) (y i) := by
  have h : maskLo k x y i = IntOp.ori (k0_pay12 y i) (Ideal.cmp .ogt (cross k (k0_pay10 x i) (k0_pay11 y i))
    (Ideal.ofBits .f32 0x00000000#32)) := rfl
  rw [h, ori_one, below_iff, ogt_zero, pay10_eq, pay11_eq]
theorem maskHi_iff (k : Fin 4) (x y : Vec Ideal S8192x128 .f32) (i : S8192x128.Idx) :
    maskHi k x y i = 1#1 ↔ y i < (0 : EReal) ∧ cross k (x i) (y i) < 0 := by
  have h : maskHi k x y i = IntOp.andi (k0_pay12 y i) (Ideal.cmp .olt (cross k (k0_pay10 x i) (k0_pay11 y i))
    (Ideal.ofBits .f32 0x00000000#32)) := rfl
  rw [h, andi_one, below_iff, olt_zero, pay10_eq, pay11_eq]

open Classical in
/-- A point adds to counter `k` the number of its block's points that meet the counter's condition. -/
theorem bump_eq (x y : Vec Ideal S8192x128 .f32) (a : EReal) (k : Fin 9) :
    bump (F := Ideal) x y a k = a + ∑ i : S8192x128.Idx, if hit k (x i) (y i) then (1 : EReal) else 0 := by
  have key (msk : IVec S8192x128 1) (P : EReal → EReal → Prop) (h : ∀ i, msk i = 1#1 ↔ P (x i) (y i)) :
      (a + ∑ i : S8192x128.Idx, if msk i = 1#1 then (1 : EReal) else 0)
        = a + ∑ i : S8192x128.Idx, if P (x i) (y i) then (1 : EReal) else 0 := by
    simp only [h]
  match k with
  | 0 => exact (added (maskLo 0 x y) a).trans (key _ (hit 0) (maskLo_iff 0 x y))
  | 1 => exact (added (maskLo 1 x y) a).trans (key _ (hit 1) (maskLo_iff 1 x y))
  | 2 => exact (added (maskLo 2 x y) a).trans (key _ (hit 2) (maskLo_iff 2 x y))
  | 3 => exact (added (maskLo 3 x y) a).trans (key _ (hit 3) (maskLo_iff 3 x y))
  | 4 => exact (added (k0_pay12 y) a).trans (key _ (hit 4) (below_iff y))
  | 5 => exact (added (maskHi 0 x y) a).trans (key _ (hit 5) (maskHi_iff 0 x y))
  | 6 => exact (added (maskHi 1 x y) a).trans (key _ (hit 6) (maskHi_iff 1 x y))
  | 7 => exact (added (maskHi 2 x y) a).trans (key _ (hit 7) (maskHi_iff 2 x y))
  | 8 => exact (added (maskHi 3 x y) a).trans (key _ (hit 8) (maskHi_iff 3 x y))

end Cert.Wedge

end
-- ==== Proof.Whole.lean ====
/-
  The whole run at the ideal values: the nine counters after the last point are the numbers of rows meeting their
  conditions, and the kernel's result is the statistic of them.
-/
module

public import proofs.«01_k».proof.Proof.Launch
public import proofs.«01_k».proof.Proof.Tally
public import Idealize.ShloMosaic.Lib.Pipeline.Value
public import Idealize.ShloMosaic.Lib.ValueIdx

@[expose] public section

set_option maxRecDepth 16384

noncomputable section

namespace Cert.Wedge

open Cert.KernelIdeal Cert.KernelIdeal.Gen
open Idealize.ShloMosaic Idealize.ShloMosaic.TcCoe Idealize.ShloMosaic.Tactic
open Idealize.SL Idealize.SL.Sem
open Idealize.ShloMosaic.ValueIdx
open scoped BigOperators

section AnyValues

variable {F : FTy → Type} [FloatOps F]
variable (m : (ℓ : Loc nD τ sig) → Buf (Elt F) ℓ) (ρ : Dev nD → PrngReg)

/-- The argument as an array of sixteen columns. -/
abbrev rows (c : Dev nD) : Vec F S4194304x16 .f32 := m ((c.tc : Thread nD τ).loc main_arg0)

/-- The first column, laid out in lines of 128. -/
def colX (c : Dev nD) : Vec F S32768x128 .f32 :=
  shapeCast S32768x128 (shapeCast S4194304 (extractStridedSlice S4194304x1 ![0, 0] (rows m c) slices_S4194304x16_S4194304x1_0_0)
    shapeCasts_S4194304x1_S4194304) shapeCasts_S4194304_S32768x128
/-- The second column, laid out in lines of 128. -/
def colY (c : Dev nD) : Vec F S32768x128 .f32 :=
  shapeCast S32768x128 (shapeCast S4194304 (extractStridedSlice S4194304x1 ![0, 1] (rows m c) slices_S4194304x16_S4194304x1_0_1)
    shapeCasts_S4194304x1_S4194304) shapeCasts_S4194304_S32768x128

/-- The first staged array is the first column. -/
theorem V_x (c : Dev nD) : (V m c main_v2 : Vec F S32768x128 .f32) = colX m c := by
  entry_read; rfl
/-- The second staged array is the second column. -/
theorem V_y (c : Dev nD) : (V m c main_v5 : Vec F S32768x128 .f32) = colY m c := by
  entry_read; rfl

/-- Line `r` of block `t`, among all lines. -/
def line (t : Fin 4) (r : Fin 8192) : Fin 32768 := ⟨r.val + 8192 * t.val, by omega⟩

/-- A block of the first column. -/
theorem blk_x (c : Dev nD) (t : Fin 4) (ht : t.val < cfg0.N) (j : S8192x128.Idx) :
    (iblk m c 0 ⟨t.val, ht⟩ : Vec F S8192x128 .f32) j = colX m c (ix2 (line t (j 0)) (j 1)) := by
  have hi : ∀ t : Fin cfg0.N, win0_0.index t 0 = t.val ∧ win0_0.index t 1 = 0 := by
    intro t; rcases fin_N0 t with rfl | rfl | rfl | rfl <;> decide
  rw [← V_x]
  unfold iblk
  rw [View.read_apply]
  show V m c main_v2 _ = V m c main_v2 _
  congr 1
  funext a
  apply Fin.ext
  match a with
  | ⟨0, _⟩ => show win0_0.index ⟨t.val, ht⟩ 0 * 8192 + 1 * (j 0).val = (j 0).val + 8192 * t.val; rw [(hi _).1]; dsimp only; omega
  | ⟨1, _⟩ => show win0_0.index ⟨t.val, ht⟩ 1 * 128 + 1 * (j 1).val = (j 1).val; rw [(hi _).2]; omega

/-- A block of the second column. -/
theorem blk_y (c : Dev nD) (t : Fin 4) (ht : t.val < cfg0.N) (j : S8192x128.Idx) :
    (iblk m c 1 ⟨t.val, ht⟩ : Vec F S8192x128 .f32) j = colY m c (ix2 (line t (j 0)) (j 1)) := by
  have hi : ∀ t : Fin cfg0.N, win0_1.index t 0 = t.val ∧ win0_1.index t 1 = 0 := by
    intro t; rcases fin_N0 t with rfl | rfl | rfl | rfl <;> decide
  rw [← V_y]
  unfold iblk
  rw [View.read_apply]
  show V m c main_v5 _ = V m c main_v5 _
  congr 1
  funext a
  apply Fin.ext
  match a with
  | ⟨0, _⟩ => show win0_1.index ⟨t.val, ht⟩ 0 * 8192 + 1 * (j 0).val = (j 0).val + 8192 * t.val; rw [(hi _).1]; dsimp only; omega
  | ⟨1, _⟩ => show win0_1.index ⟨t.val, ht⟩ 1 * 128 + 1 * (j 1).val = (j 1).val; rw [(hi _).2]; omega

/-! ## The result array -/

theorem three_lt : 3 < cfg0.N := lt_of_lt_of_eq (by decide) N_0.symm

/-- The result array at the end: the statistic of the counters after the last point. -/
def outArr (c : Dev nD) : Vec F S1 .f32 := fun _ => stat (counters m c 3 three_lt)

/-- The one write-back writes it. -/
theorem flushed_out (c : Dev nD) (t : Fin cfg0.N) (hf : (cfg0.win 2).flush t = true) :
    (dats m 0 c).flushed 2 t = ((cfg0.win 2).blk t).view.read (Elt F) (outArr m c : Buf (Elt F) ((c : Thread nD τ).loc main_v6)) := by
  have hN : cfg0.N = 4 := N_0
  have h3 : t.val = 3 := by have := (flush0_2 t).mp hf; have := t.isLt; omega
  obtain rfl : t = t0_3 := Fin.ext h3
  show (cfg0.win 2).cut (grid0.coords t0_3) ((dats m 0 c).after 2 t0_3) = _
  rw [after_o]
  rfl

/-- So the result array ends holding it. -/
theorem final_out (c : Dev nD) : (dats m 0 c).arrAt 2 cfg0.N = (outArr m c : Buf (Elt F) ((c : Thread nD τ).loc main_v6)) :=
  (dats m 0 c).arrAt_eq_of_cover 2 (outArr m c) (flushed_out m c) fun i =>
    ⟨t0_3, (flush0_2 t0_3).mpr rfl, by
      show i ∈ ((View.whole main_v6).slice (win0_2.rect t0_3)).set
      rw [View.set_slice_whole, Rect.mem_set_unit]
      intro a
      have h0 : (i 0 : Nat) < 1 := (i 0).isLt
      match a with
      | ⟨0, _⟩ => show win0_2.index t0_3 0 * win0_2.size 0 ≤ (i 0 : Nat) ∧ (i 0 : Nat) < win0_2.index t0_3 0 * win0_2.size 0 + win0_2.xsize (grid0.coords t0_3) 0
                  rw [show win0_2.index t0_3 0 * win0_2.size 0 = 0 from by decide +kernel, show win0_2.xsize (grid0.coords t0_3) 0 = 1 from by decide +kernel]; omega⟩

/-- The kernel's result: the statistic of the counters after the last point. -/
theorem tail_out (c : Dev nD) : Pipeline.afterTail₀ cfgs (dats m) 0 (V0 m) [hostOps1] c main_v7
    = ((fun _ => stat (counters m c 3 three_lt) : Vec F S_ .f32) : Buf (Elt F) ((c : Thread nD τ).loc main_v7)) := by
  unfold Pipeline.afterTail₀
  simp only [List.flatten_cons, List.flatten_nil, List.append_nil]
  after_results
  have e : Pipeline.withArrays (cfgs 0).spec c (V0 m c) (fun w => (dats m 0 c).arrAt w (cfgs 0).N) (Proc.devRef .tc main_v6)
      = (outArr m c : Buf (Elt F) ((c : Thread nD τ).loc main_v6)) :=
    (Pipeline.withArrays_arr (cfgs 0).spec launch0.win.arr_inj c _ _ 2).trans (final_out m c)
  rw [e]
  rfl

/-- The run, read: the result at the statistic, the argument unchanged. -/
theorem run_value : θ_run defs (onTc (τ := τ) (main (F := F))) ⟨m, fun _ => 0, ρ⟩ (fun r => ∀ c : Dev nD,
      r.2.mem ((c.tc : Thread nD τ).loc main_v7) = ((fun _ => stat (counters m c 3 three_lt) : Vec F S_ .f32) : Buf (Elt F) ((c : Thread nD τ).loc main_v7))
      ∧ r.2.mem ((c.tc : Thread nD τ).loc main_arg0) = m ((c.tc : Thread nD τ).loc main_arg0)) :=
  (θ_run defs _ _).mono (fun _ h c => ⟨((h c).2 main_v7 (Pipeline.mem_restRefs_of main_v7 (by decide) (by decide))).trans (tail_out m c),
    ((h c).2 main_arg0 (Pipeline.mem_restRefs_of main_arg0 (by decide) (by decide))).trans (W_main_arg0 m (dats m) c)⟩) (run_main m ρ)

end AnyValues

/-! ## The counters are counts of rows -/

section AtIdeal

variable (m : (ℓ : Loc nD τ sig) → Buf (Elt Ideal) ℓ)

/-- The sum over the lines block by block is the sum over all the lines. -/
theorem sum_blocks (f : S32768x128.Idx → EReal) :
    (∑ t : Fin 4, ∑ j : S8192x128.Idx, f (ix2 (line t (j 0)) (j 1))) = ∑ i : S32768x128.Idx, f i := by
  have h1 (t : Fin 4) : (∑ j : S8192x128.Idx, f (ix2 (line t (j 0)) (j 1)))
      = ∑ r : Fin 8192, ∑ l : Fin 128, f (ix2 (line t r) l) :=
    sum_idx2 (n0 := 8192) (n1 := 128) fun j => f (ix2 (line t (j 0)) (j 1))
  have h2 : (∑ i : S32768x128.Idx, f i) = ∑ q : Fin 32768, ∑ l : Fin 128, f (ix2 q l) :=
    sum_idx2 (n0 := 32768) (n1 := 128) f
  rw [h2, Finset.sum_congr rfl fun t _ => h1 t, ← Fintype.sum_prod_type']
  refine Fintype.sum_equiv (finProdFinEquiv.trans (finCongr (by norm_num : 4 * 8192 = 32768))) _ _ fun p => ?_
  rw [show (finProdFinEquiv.trans (finCongr (by norm_num : 4 * 8192 = 32768))) p = line p.1 p.2 from Fin.ext rfl]

/-- A sum over a reshaped pair of arrays is the sum over the arrays. -/
theorem sum_cast {s t : Shape} (h : s.ShapeCasts t) (X Y : s.Idx → EReal) (g : EReal → EReal → EReal) :
    (∑ i : t.Idx, g (shapeCast t X h i) (shapeCast t Y h i)) = ∑ i : s.Idx, g (X i) (Y i) :=
  Equiv.sum_comp (Shape.reshapeEquiv h) fun i => g (X i) (Y i)

/-- The first column's entry of a row. -/
theorem slice_x (X : Vec Ideal S4194304x16 .f32) (r : Fin 4194304) :
    extractStridedSlice S4194304x1 ![0, 0] X slices_S4194304x16_S4194304x1_0_0 (ix2 r 0) = X (ix2 r 0) :=
  extractStridedSlice_apply _ _ _ _ _ fun a => by
    match a with
    | ⟨0, _⟩ => show r.val = 0 + r.val; omega
    | ⟨1, _⟩ => rfl
/-- The second column's entry of a row. -/
theorem slice_y (X : Vec Ideal S4194304x16 .f32) (r : Fin 4194304) :
    extractStridedSlice S4194304x1 ![0, 1] X slices_S4194304x16_S4194304x1_0_1 (ix2 r 0) = X (ix2 r 1) :=
  extractStridedSlice_apply _ _ _ _ _ fun a => by
    match a with
    | ⟨0, _⟩ => show r.val = 0 + r.val; omega
    | ⟨1, _⟩ => rfl

/-- The sum over the lines is the sum over the rows. -/
theorem sum_lines (c : Dev nD) (g : EReal → EReal → EReal) :
    (∑ i : S32768x128.Idx, g (colX m c i) (colY m c i))
      = ∑ r : Fin 4194304, g (rows m c (ix2 r 0)) (rows m c (ix2 r 1)) := by
  have e1 : (∑ i : S32768x128.Idx, g (colX m c i) (colY m c i))
      = ∑ r : S4194304x1.Idx, g (extractStridedSlice S4194304x1 ![0, 0] (rows m c) slices_S4194304x16_S4194304x1_0_0 r)
          (extractStridedSlice S4194304x1 ![0, 1] (rows m c) slices_S4194304x16_S4194304x1_0_1 r) := by
    unfold colX colY
    rw [sum_cast, sum_cast]
  rw [e1]
  refine (sum_idx2 (n0 := 4194304) (n1 := 1) _).trans (Finset.sum_congr rfl fun r _ => ?_)
  rw [Fin.sum_univ_one, slice_x, slice_y]

open Classical in
/-- The number of rows whose first two entries meet condition `k`. -/
def tally (c : Dev nD) (k : Fin 9) : ℕ :=
  (Finset.univ.filter fun r : Fin 4194304 => hit k (rows m c (ix2 r 0)) (rows m c (ix2 r 1))).card

open Classical in
/-- The counters after the last point are the counts of rows. -/
theorem counters_eq_tally (c : Dev nD) (k : Fin 9) : counters m c 3 three_lt k = ((tally m c k : ℕ) : EReal) := by
  have hN : cfg0.N = 4 := N_0
  have hb (t : Fin 4) (ht : t.val < cfg0.N) : (∑ i : S8192x128.Idx, if hit k (iblk m c 0 ⟨t.val, ht⟩ i) (iblk m c 1 ⟨t.val, ht⟩ i) then (1 : EReal) else 0)
      = ∑ j : S8192x128.Idx, (fun i : S32768x128.Idx => if hit k (colX m c i) (colY m c i) then (1 : EReal) else 0) (ix2 (line t (j 0)) (j 1)) :=
    Finset.sum_congr rfl fun j _ => by rw [blk_x, blk_y]
  have e : counters m c 3 three_lt k = bump (iblk m c 0 ⟨3, by omega⟩) (iblk m c 1 ⟨3, by omega⟩)
      (bump (iblk m c 0 ⟨2, by omega⟩) (iblk m c 1 ⟨2, by omega⟩)
        (bump (iblk m c 0 ⟨1, by omega⟩) (iblk m c 1 ⟨1, by omega⟩)
          (bump (iblk m c 0 ⟨0, by omega⟩) (iblk m c 1 ⟨0, by omega⟩) (Ideal.ofBits .f32 0x00000000#32) k) k) k) k := rfl
  rw [e, bump_eq, bump_eq, bump_eq, bump_eq, Ideal.ofBits_zero_f32]
  have e0 := hb 0 (by rw [hN]; decide)
  have e1 := hb 1 (by rw [hN]; decide)
  have e2 := hb 2 (by rw [hN]; decide)
  have e3 := hb 3 (by rw [hN]; decide)
  have hs := sum_blocks (fun i : S32768x128.Idx => if hit k (colX m c i) (colY m c i) then (1 : EReal) else 0)
  rw [Fin.sum_univ_four] at hs
  refine (congrArg₂ (· + ·) (congrArg₂ (· + ·) (congrArg₂ (· + ·) ((zero_add _).trans e0) e1) e2) e3).trans (hs.trans ?_)
  rw [sum_lines m c fun x y => if hit k x y then (1 : EReal) else 0, Finset.sum_boole]
  rfl

end AtIdeal

end Cert.Wedge

end
-- ==== Proof.Angle.lean ====
module

public import Mathlib.Analysis.SpecialFunctions.Trigonometric.Arctan

@[expose] public section

noncomputable section

namespace Cert.Angle

open Real

/-- The angle of the point `(x, y)`, between minus pi and pi; zero at the origin. -/
def ang (y x : ℝ) : ℝ :=
  if 0 < x then arctan (y / x)
  else if x < 0 then (if 0 ≤ y then arctan (y / x) + π else arctan (y / x) - π)
  else if 0 < y then π / 2 else if y < 0 then -(π / 2) else 0

theorem ang_zero : ang 0 0 = 0 := by simp [ang]

/-- The angle of a point is greater than minus pi. -/
theorem neg_pi_lt_ang (y x : ℝ) : -π < ang y x := by
  have hp := pi_pos
  have h1 := neg_pi_div_two_lt_arctan (y / x)
  unfold ang
  split_ifs with hx hx' hy hy hy'
  · linarith
  · linarith
  · have : 0 < arctan (y / x) := by
      have : 0 < y / x := div_pos_of_neg_of_neg (not_le.1 hy) hx'
      simpa using arctan_strictMono this
    linarith
  all_goals linarith

/-- The angle of a point is at most pi. -/
theorem ang_le_pi (y x : ℝ) : ang y x ≤ π := by
  have hp := pi_pos
  have h2 := arctan_lt_pi_div_two (y / x)
  unfold ang
  split_ifs with hx hx' hy hy hy'
  · linarith
  · have : arctan (y / x) ≤ 0 := by
      have : y / x ≤ 0 := div_nonpos_of_nonneg_of_nonpos hy hx'.le
      simpa using arctan_strictMono.monotone this
    linarith
  all_goals linarith

/-- A point other than the origin in polar form, at its angle. -/
theorem polar {y x : ℝ} (h : ¬ (y = 0 ∧ x = 0)) :
    ∃ r : ℝ, 0 < r ∧ x = r * cos (ang y x) ∧ y = r * sin (ang y x) := by
  have hc := cos_arctan_pos (y / x)
  have ht : sin (arctan (y / x)) = y / x * cos (arctan (y / x)) := by
    have := tan_arctan (y / x)
    rw [tan_eq_sin_div_cos, div_eq_iff hc.ne'] at this
    exact this
  unfold ang
  split_ifs with hx hx' hy hy hy'
  · refine ⟨x / cos (arctan (y / x)), div_pos hx hc, by field_simp, ?_⟩
    rw [ht]; field_simp
  · refine ⟨-x / cos (arctan (y / x)), div_pos (neg_pos.2 hx') hc, ?_, ?_⟩
    · rw [cos_add_pi]; field_simp
    · rw [sin_add_pi, ht]; field_simp [hx'.ne]
  · refine ⟨-x / cos (arctan (y / x)), div_pos (neg_pos.2 hx') hc, ?_, ?_⟩
    · rw [cos_sub_pi]; field_simp
    · rw [sin_sub_pi, ht]; field_simp [hx'.ne]
  · exact ⟨y, hy, by simp; linarith, by simp⟩
  · exact ⟨-y, neg_pos.2 hy', by simp; linarith, by simp⟩
  · exact absurd ⟨by linarith, by linarith⟩ h

/-- Stretching a point by a positive number leaves its angle. -/
theorem ang_scale {k : ℝ} (hk : 0 < k) (y x : ℝ) : ang (k * y) (k * x) = ang y x := by
  have hn (z : ℝ) : k * z < 0 ↔ z < 0 := by
    constructor
    · intro h; by_contra hc; have := mul_nonneg hk.le (not_lt.1 hc); linarith
    · exact mul_neg_of_pos_of_neg hk
  unfold ang
  rw [mul_div_mul_left _ _ hk.ne']
  simp only [mul_pos_iff_of_pos_left hk, mul_nonneg_iff_of_pos_left hk, hn]

/-- The angle taken between zero and a whole turn `τ`. -/
def wrap (τ θ : ℝ) : ℝ := if θ < 0 then θ + τ else θ

/-- A point below the first axis has a negative angle, and no other point has one. -/
theorem ang_neg_iff (y x : ℝ) : ang y x < 0 ↔ y < 0 := by
  by_cases h : y = 0 ∧ x = 0
  · obtain ⟨rfl, rfl⟩ := h; simp [ang_zero]
  obtain ⟨r, hr, -, hy⟩ := polar h
  have h1 := neg_pi_lt_ang y x
  have h2 := ang_le_pi y x
  constructor
  · intro ha
    rw [hy]
    exact mul_neg_of_pos_of_neg hr (sin_neg_of_neg_of_neg_pi_lt ha h1)
  · intro ha
    by_contra hn
    have : 0 ≤ sin (ang y x) := sin_nonneg_of_nonneg_of_le_pi (not_lt.1 hn) h2
    have := mul_nonneg hr.le this
    linarith

/-- The cross product of two points is the product of their lengths and the sine between them. -/
theorem cross_eq {y x S C : ℝ} (h : ¬ (y = 0 ∧ x = 0)) (hS : ¬ (S = 0 ∧ C = 0)) :
    ∃ q : ℝ, 0 < q ∧ C * y - S * x = q * sin (ang y x - ang S C) := by
  obtain ⟨r, hr, hx, hy⟩ := polar h
  obtain ⟨ρ, hρ, hC, hS'⟩ := polar hS
  refine ⟨r * ρ, mul_pos hr hρ, ?_⟩
  rw [sin_sub]
  generalize ang y x = θ at *
  generalize ang S C = φ at *
  subst hx hy hC hS'
  ring

/-- A direction above the first axis has an angle between zero and pi. -/
theorem ang_pos_of_pos {S C : ℝ} (hS : 0 < S) : 0 < ang S C ∧ ang S C < π := by
  obtain ⟨r, hr, -, hy⟩ := polar (y := S) (x := C) (fun h => hS.ne' h.1)
  have h1 : ¬ ang S C < 0 := fun h => by have := (ang_neg_iff S C).1 h; linarith
  have h2 := ang_le_pi S C
  have hs : sin (ang S C) ≠ 0 := fun h => by rw [h] at hy; simp at hy; linarith
  constructor
  · refine lt_of_le_of_ne (not_lt.1 h1) fun h => hs (by rw [← h, sin_zero])
  · refine lt_of_le_of_ne h2 fun h => hs (by rw [h, sin_pi])

/-- A point lies beyond a direction of the upper half plane exactly when it is below the first axis or on
the direction's left. -/
theorem lower_iff {τ S C : ℝ} (hτ : 2 * π ≤ τ) (hS : 0 < S) (y x : ℝ) :
    ang S C < wrap τ (ang y x) ↔ y < 0 ∨ 0 < C * y - S * x := by
  obtain ⟨p1, p2⟩ := ang_pos_of_pos (C := C) hS
  by_cases h : y = 0 ∧ x = 0
  · obtain ⟨rfl, rfl⟩ := h
    simp [ang_zero, wrap, p1.le]
  obtain ⟨q, hq, e⟩ := cross_eq h (fun h => hS.ne' h.1 : ¬ (S = 0 ∧ C = 0))
  have h1 := neg_pi_lt_ang y x
  have h2 := ang_le_pi y x
  unfold wrap
  by_cases hn : ang y x < 0
  · rw [if_pos hn]
    exact ⟨fun _ => Or.inl ((ang_neg_iff y x).1 hn), fun _ => by linarith⟩
  · rw [if_neg hn, e, mul_pos_iff_of_pos_left hq]
    have hy : ¬ y < 0 := fun h => hn ((ang_neg_iff y x).2 h)
    constructor
    · exact fun hl => Or.inr (sin_pos_of_pos_of_lt_pi (by linarith) (by linarith))
    · rintro (hl | hl)
      · exact absurd hl hy
      · by_contra hc
        have := sin_nonpos_of_nonpos_of_neg_pi_le (x := ang y x - ang S C) (by linarith) (by linarith [not_lt.1 hn])
        linarith

/-- A point lies beyond the direction opposite to one of the upper half plane exactly when it is below the
first axis and on the right of the line. -/
theorem upper_iff {τ S C : ℝ} (hτ : 2 * π ≤ τ) (hS : 0 < S) (y x : ℝ) :
    ang (-S) (-C) + τ < wrap τ (ang y x) ↔ y < 0 ∧ C * y - S * x < 0 := by
  have hS' : ¬ (-S = 0 ∧ -C = 0) := fun h => by linarith [h.1]
  have p1 := neg_pi_lt_ang (-S) (-C)
  have p2 : ang (-S) (-C) < 0 := (ang_neg_iff _ _).2 (by linarith)
  have hp := pi_pos
  by_cases h : y = 0 ∧ x = 0
  · obtain ⟨rfl, rfl⟩ := h
    simp [ang_zero, wrap]
    linarith
  obtain ⟨q, hq, e⟩ := cross_eq h hS'
  have h1 := neg_pi_lt_ang y x
  have h2 := ang_le_pi y x
  have e' : C * y - S * x = -(q * sin (ang y x - ang (-S) (-C))) := by rw [← e]; ring
  unfold wrap
  rw [← ang_neg_iff y x, e', neg_lt_zero, mul_pos_iff_of_pos_left hq]
  by_cases hn : ang y x < 0
  · rw [if_pos hn]
    constructor
    · exact fun hl => ⟨hn, sin_pos_of_pos_of_lt_pi (by linarith) (by linarith)⟩
    · rintro ⟨-, hl⟩
      by_contra hc
      have := sin_nonpos_of_nonpos_of_neg_pi_le (x := ang y x - ang (-S) (-C)) (by linarith) (by linarith)
      linarith
  · rw [if_neg hn]
    exact ⟨fun hl => absurd hl (by linarith), fun hl => absurd hl.1 hn⟩

/-- A point lies beyond half a turn exactly when it is below the first axis. -/
theorem middle_iff {τ : ℝ} (hτ : 2 * π ≤ τ) (y x : ℝ) : τ / 2 < wrap τ (ang y x) ↔ y < 0 := by
  have h1 := neg_pi_lt_ang y x
  have h2 := ang_le_pi y x
  rw [← ang_neg_iff y x]
  unfold wrap
  by_cases hn : ang y x < 0
  · rw [if_pos hn]; exact ⟨fun _ => hn, fun _ => by linarith⟩
  · rw [if_neg hn]; exact ⟨fun hl => absurd hl (by linarith), fun hl => absurd hl hn⟩

end Cert.Angle

end
-- ==== Proof.Turn.lean ====
module

public import Mathlib.Analysis.SpecialFunctions.Trigonometric.Arctan
public import Mathlib.Analysis.Complex.Exponential

@[expose] public section

noncomputable section

namespace Cert.Turn

open Real

/-- The sine and the cosine of a number up to one, against the first eight terms of the exponential. -/
theorem taylor {a : ℝ} (h0 : 0 ≤ a) (h1 : a ≤ 1) :
    |cos a - (1 - a ^ 2 / 2 + a ^ 4 / 24 - a ^ 6 / 720)| ≤ a ^ 8 / 35000 ∧
      |sin a - (a - a ^ 3 / 6 + a ^ 5 / 120 - a ^ 7 / 5040)| ≤ a ^ 8 / 35000 := by
  have hn : ‖(a : ℂ) * Complex.I‖ = a := by simp [abs_of_nonneg h0]
  have hb := Complex.exp_bound (x := (a : ℂ) * Complex.I) (by rw [hn]; exact h1) (n := 8) (by norm_num)
  rw [hn] at hb
  have hle : a ^ 8 * (((8 : ℕ).succ : ℝ) * ((Nat.factorial 8 : ℕ) * (8 : ℕ) : ℝ)⁻¹) ≤ a ^ 8 / 35000 := by
    have : (0 : ℝ) ≤ a ^ 8 := by positivity
    have e : (((8 : ℕ).succ : ℝ) * ((Nat.factorial 8 : ℕ) * (8 : ℕ) : ℝ)⁻¹) ≤ 1 / 35000 := by
      norm_num [Nat.factorial]
    calc _ ≤ a ^ 8 * (1 / 35000) := mul_le_mul_of_nonneg_left e this
      _ = _ := by ring
  have hs : Complex.exp ((a : ℂ) * Complex.I) - ∑ m ∈ Finset.range 8, ((a : ℂ) * Complex.I) ^ m / (Nat.factorial m : ℂ)
      = ((cos a - (1 - a ^ 2 / 2 + a ^ 4 / 24 - a ^ 6 / 720) : ℝ) : ℂ)
        + ((sin a - (a - a ^ 3 / 6 + a ^ 5 / 120 - a ^ 7 / 5040) : ℝ) : ℂ) * Complex.I := by
    rw [Complex.exp_mul_I]
    have i2 : Complex.I ^ 2 = -1 := Complex.I_sq
    have i3 : Complex.I ^ 3 = -Complex.I := by rw [pow_succ, i2]; ring
    have i4 : Complex.I ^ 4 = 1 := by rw [pow_succ, i3]; rw [neg_mul, ← pow_two, i2]; ring
    have i5 : Complex.I ^ 5 = Complex.I := by rw [pow_succ, i4]; ring
    have i6 : Complex.I ^ 6 = -1 := by rw [pow_succ, i5, ← pow_two, i2]
    have i7 : Complex.I ^ 7 = -Complex.I := by rw [pow_succ, i6]; ring
    simp only [Finset.sum_range_succ, Finset.sum_range_zero, mul_pow, i2, i3, i4, i5, i6, i7, pow_zero, pow_one,
      Nat.factorial]
    push_cast
    ring
  rw [hs] at hb
  have hb := hb.trans hle
  constructor
  · have := (Complex.abs_re_le_norm _).trans hb
    simpa only [Complex.add_re, Complex.ofReal_re, Complex.re_ofReal_mul, Complex.I_re, mul_zero, add_zero] using this
  · have := (Complex.abs_im_le_norm _).trans hb
    simpa only [Complex.add_im, Complex.ofReal_im, Complex.im_ofReal_mul, Complex.I_im, mul_one, zero_add] using this

/-- The cosine is positive up to one. -/
theorem cos_pos_of_le_one {a : ℝ} (h0 : 0 ≤ a) (h1 : a ≤ 1) : 0 < cos a := by
  have := one_le_pi_div_two
  have hp := pi_pos
  rcases eq_or_lt_of_le h1 with rfl | h
  · exact cos_one_pos
  · exact cos_pos_of_mem_Ioo ⟨by linarith, by linarith⟩

/-- The arctangent of a fifth, from above. -/
theorem arctan_fifth_le : arctan 5⁻¹ ≤ 197395562 / 1000000000 := by
  obtain ⟨hc, hs⟩ := taylor (a := 197395562 / 1000000000) (by norm_num) (by norm_num)
  have hp := cos_pos_of_le_one (a := 197395562 / 1000000000) (by norm_num) (by norm_num)
  have h2 := one_le_pi_div_two
  rw [abs_le] at hc hs
  have ht : (5 : ℝ)⁻¹ ≤ tan (197395562 / 1000000000) := by
    rw [tan_eq_sin_div_cos, le_div_iff₀ hp]
    norm_num at hc hs ⊢
    linarith [hc.2, hs.1]
  have := arctan_strictMono.monotone ht
  rwa [arctan_tan (by linarith) (by linarith)] at this

/-- The arctangent of the 239th part of one, from below. -/
theorem le_arctan_small : 4184074 / 1000000000 ≤ arctan 239⁻¹ := by
  obtain ⟨hc, hs⟩ := taylor (a := 4184074 / 1000000000) (by norm_num) (by norm_num)
  have hp := cos_pos_of_le_one (a := 4184074 / 1000000000) (by norm_num) (by norm_num)
  have h2 := one_le_pi_div_two
  rw [abs_le] at hc hs
  have ht : tan (4184074 / 1000000000) ≤ (239 : ℝ)⁻¹ := by
    rw [tan_eq_sin_div_cos, div_le_iff₀ hp]
    norm_num at hc hs ⊢
    linarith [hc.1, hs.2]
  have := arctan_strictMono.monotone ht
  rwa [arctan_tan (by linarith) (by linarith)] at this

/-- The single-precision word nearest a whole turn is not below a whole turn. -/
theorem two_pi_le : 2 * π ≤ 13176795 / 2097152 := by
  have h1 := arctan_fifth_le
  have h2 := le_arctan_small
  have h := four_mul_arctan_inv_5_sub_arctan_inv_239
  linarith

end Cert.Turn

end
-- ==== Proof.Row.lean ====
/-
  One point: which of the nine conditions it meets, told by its angle; the constants of both programs as real numbers;
  the angle taken modulo one turn.
-/
module

public import proofs.«01_k».proof.Proof.Tally
public import proofs.«01_k».proof.Proof.Angle
public import proofs.«01_k».proof.Proof.Turn

@[expose] public section

noncomputable section

namespace Cert.Row

open Idealize.ShloMosaic
open Cert.Angle Cert.Wedge

/-- One turn, as the programs hold it. -/
def turn : ℝ := 13176795 / 2097152
/-- The four directions' sines, as the programs hold them. -/
def sinR : Fin 4 → ℝ
  | 0 => 9861400 / 2 ^ 24 | 1 => 15956081 / 2 ^ 24 | 2 => 15956080 / 2 ^ 24 | 3 => 9861399 / 2 ^ 24
/-- The four directions' cosines, as the programs hold them. -/
def cosR : Fin 4 → ℝ
  | 0 => 13573053 / 2 ^ 24 | 1 => 10368889 / 2 ^ 25 | 2 => -(10368891 / 2 ^ 25) | 3 => -(13573054 / 2 ^ 24)

/-- The word of one turn. -/
theorem word_turn : Ideal.ofBits .f32 0x40C90FDB#32 = (turn : EReal) := by
  simp [Ideal.ofBits, Ideal.ieee, turn, -EReal.coe_mul]; norm_num
/-- The words of the sines. -/
theorem word_sin (k : Fin 4) : Ideal.ofBits .f32 (sinWord k) = (sinR k : EReal) := by
  match k with
  | 0 => simp [Ideal.ofBits, Ideal.ieee, sinWord, sinR, -EReal.coe_mul]; norm_num
  | 1 => simp [Ideal.ofBits, Ideal.ieee, sinWord, sinR, -EReal.coe_mul]; norm_num
  | 2 => simp [Ideal.ofBits, Ideal.ieee, sinWord, sinR, -EReal.coe_mul]; norm_num
  | 3 => simp [Ideal.ofBits, Ideal.ieee, sinWord, sinR, -EReal.coe_mul]; norm_num
/-- The words of the cosines. -/
theorem word_cos (k : Fin 4) : Ideal.ofBits .f32 (cosWord k) = (cosR k : EReal) := by
  match k with
  | 0 => simp [Ideal.ofBits, Ideal.ieee, cosWord, cosR, -EReal.coe_mul]; norm_num
  | 1 => simp [Ideal.ofBits, Ideal.ieee, cosWord, cosR, -EReal.coe_mul]; norm_num
  | 2 => simp [Ideal.ofBits, Ideal.ieee, cosWord, cosR, -EReal.coe_mul]; norm_num
  | 3 => simp [Ideal.ofBits, Ideal.ieee, cosWord, cosR, -EReal.coe_mul]; norm_num
/-- The words of the sines with the sign turned. -/
theorem word_sin_neg (k : Fin 4) : Ideal.ofBits .f32 (sinWord k ^^^ 0x80000000#32) = ((-sinR k : ℝ) : EReal) := by
  match k with
  | 0 => simp [Ideal.ofBits, Ideal.ieee, sinWord, sinR, -EReal.coe_mul]; norm_num
  | 1 => simp [Ideal.ofBits, Ideal.ieee, sinWord, sinR, -EReal.coe_mul]; norm_num
  | 2 => simp [Ideal.ofBits, Ideal.ieee, sinWord, sinR, -EReal.coe_mul]; norm_num
  | 3 => simp [Ideal.ofBits, Ideal.ieee, sinWord, sinR, -EReal.coe_mul]; norm_num
/-- The words of the cosines with the sign turned. -/
theorem word_cos_neg (k : Fin 4) : Ideal.ofBits .f32 (cosWord k ^^^ 0x80000000#32) = ((-cosR k : ℝ) : EReal) := by
  match k with
  | 0 => simp [Ideal.ofBits, Ideal.ieee, cosWord, cosR, -EReal.coe_mul]; norm_num
  | 1 => simp [Ideal.ofBits, Ideal.ieee, cosWord, cosR, -EReal.coe_mul]; norm_num
  | 2 => simp [Ideal.ofBits, Ideal.ieee, cosWord, cosR, -EReal.coe_mul]; norm_num
  | 3 => simp [Ideal.ofBits, Ideal.ieee, cosWord, cosR, -EReal.coe_mul]; norm_num

/-- The sines are positive. -/
theorem sin_pos (k : Fin 4) : 0 < sinR k := by
  match k with
  | 0 => simp only [sinR]; norm_num
  | 1 => simp only [sinR]; norm_num
  | 2 => simp only [sinR]; norm_num
  | 3 => simp only [sinR]; norm_num

/-- The turn held is at least one turn. -/
theorem turn_ge : 2 * Real.pi ≤ turn := Turn.two_pi_le
theorem turn_pos : 0 < turn := by unfold turn; norm_num

/-- The angle beyond which a point meets condition `k`. -/
def bound : Fin 9 → ℝ
  | 0 => ang (sinR 0) (cosR 0) | 1 => ang (sinR 1) (cosR 1) | 2 => ang (sinR 2) (cosR 2) | 3 => ang (sinR 3) (cosR 3)
  | 4 => turn / 2
  | 5 => ang (-sinR 0) (-cosR 0) + turn | 6 => ang (-sinR 1) (-cosR 1) + turn
  | 7 => ang (-sinR 2) (-cosR 2) + turn | 8 => ang (-sinR 3) (-cosR 3) + turn

/-- The cross product of a direction and a finite point. -/
theorem cross_real (k : Fin 4) (x y : ℝ) : cross k (x : EReal) (y : EReal) = ((cosR k * y - sinR k * x : ℝ) : EReal) := by
  unfold cross
  rw [word_sin, word_cos]; norm_cast

/-- Left of a direction, in real numbers. -/
theorem left_real (k : Fin 4) (x y : ℝ) :
    ((y : EReal) < 0 ∨ 0 < cross k (x : EReal) (y : EReal)) ↔ ang (sinR k) (cosR k) < wrap turn (ang y x) := by
  rw [lower_iff turn_ge (sin_pos k), cross_real]
  exact_mod_cast Iff.rfl

/-- Right of a direction's line, in real numbers. -/
theorem right_real (k : Fin 4) (x y : ℝ) :
    ((y : EReal) < 0 ∧ cross k (x : EReal) (y : EReal) < 0) ↔ ang (-sinR k) (-cosR k) + turn < wrap turn (ang y x) := by
  rw [upper_iff turn_ge (sin_pos k), cross_real]
  exact_mod_cast Iff.rfl

/-- A finite point meets condition `k` exactly when its angle is beyond that condition's bound. -/
theorem hit_real (k : Fin 9) (x y : ℝ) : hit k (x : EReal) (y : EReal) ↔ bound k < wrap turn (ang y x) := by
  match k with
  | 0 => exact left_real 0 x y
  | 1 => exact left_real 1 x y
  | 2 => exact left_real 2 x y
  | 3 => exact left_real 3 x y
  | 4 =>
    show (y : EReal) < 0 ↔ turn / 2 < _
    rw [middle_iff turn_ge]; exact_mod_cast Iff.rfl
  | 5 => exact right_real 0 x y
  | 6 => exact right_real 1 x y
  | 7 => exact right_real 2 x y
  | 8 => exact right_real 3 x y

/-- The angle of a finite point. -/
theorem atan_real (y x : ℝ) : Ideal.atan2 (y : EReal) (x : EReal) = (ang y x : EReal) := rfl

/-- An angle modulo one turn, as the programs compute it: the remainder, and one turn more where its sign differs. -/
def turned (θ : EReal) : EReal :=
  Scalar.select (IntOp.andi (IntOp.cmpi .ne
      (Ideal.cmp .olt (Ideal.remf θ (Ideal.ofBits .f32 0x40C90FDB#32)) (Ideal.ofBits .f32 0x00000000#32))
      (Ideal.cmp .olt (Ideal.ofBits .f32 0x40C90FDB#32) (Ideal.ofBits .f32 0x00000000#32)))
      (Ideal.cmp .une (Ideal.remf θ (Ideal.ofBits .f32 0x40C90FDB#32)) (Ideal.ofBits .f32 0x00000000#32)))
    (Ideal.remf θ (Ideal.ofBits .f32 0x40C90FDB#32) + Ideal.ofBits .f32 0x40C90FDB#32)
    (Ideal.remf θ (Ideal.ofBits .f32 0x40C90FDB#32))

/-- The remainder of an angle shorter than one turn is the angle. -/
theorem rem_short {θ : ℝ} (h : |θ| < turn) : Ideal.remf (θ : EReal) (turn : EReal) = (θ : EReal) := by
  rw [Ideal.remf_coe, if_neg turn_pos.ne']
  have hp := turn_pos
  rw [abs_lt] at h
  have e : Ideal.truncInt (θ / turn) = 0 := by
    unfold Ideal.truncInt
    split
    · rename_i h0
      rw [Int.floor_eq_zero_iff]
      exact ⟨h0, by rw [div_lt_one hp]; exact h.2⟩
    · rename_i h0
      rw [Int.ceil_eq_zero_iff]
      exact ⟨by rw [lt_div_iff₀ hp]; linarith, (not_le.1 h0).le⟩
  rw [e]; simp

/-- The angle of a point modulo one turn is the angle, and one turn more where it is negative. -/
theorem turned_real (y x : ℝ) : turned (ang y x : EReal) = (wrap turn (ang y x) : EReal) := by
  have hp := turn_pos
  have hlt : |ang y x| < turn := by
    have h1 := neg_pi_lt_ang y x
    have h2 := ang_le_pi y x
    have h3 := turn_ge
    have h4 := Real.pi_pos
    rw [abs_lt]; constructor <;> linarith
  unfold turned
  rw [word_turn, rem_short hlt, Ideal.ofBits_zero_f32]
  generalize ang y x = θ
  have h0 : Ideal.cmp .olt (turn : EReal) 0 = 0#1 := by
    have : ¬ ((turn : EReal) < 0) := by exact_mod_cast hp.le.not_gt
    show BitVec.ofBool (decide _) = _
    rw [decide_eq_false this]; rfl
  rw [h0]
  unfold wrap
  by_cases hθ : θ < 0
  · have h1 : Ideal.cmp .olt (θ : EReal) 0 = 1#1 := (bit_one _).2 (by exact_mod_cast hθ)
    have h2 : Ideal.cmp .une (θ : EReal) 0 = 1#1 := (bit_one _).2 (by exact_mod_cast hθ.ne)
    rw [h1, h2, if_pos hθ]
    exact (EReal.coe_add _ _).symm
  · have h1 : Ideal.cmp .olt (θ : EReal) 0 = 0#1 := by
      have : ¬ ((θ : EReal) < 0) := by exact_mod_cast hθ
      show BitVec.ofBool (decide _) = _
      rw [decide_eq_false this]; rfl
    rw [h1, if_neg hθ]
    generalize Ideal.cmp .une (θ : EReal) 0 = b
    have hb : IntOp.andi (IntOp.cmpi .ne (0#1) (0#1)) b = 0#1 := by revert b; decide
    rw [hb]; rfl

end Cert.Row
-- ==== Proof.Clear.lean ====
/-
  What the precondition says of each row: its entries are finite, and none of the eight pairs of nearly equal bounds
  has the row's angle between them.
-/
module

public import proofs.«01_k».proof.Proof.Row
public import proofs.«01_k».proof.Proof.Gen.Pre_rows_clear_of_gaps
public import Idealize.ShloMosaic.Lib.Pipeline.Value
public import Idealize.ShloMosaic.Lib.ValueIdx

@[expose] public section

noncomputable section

namespace Cert.Clear

open Idealize.ShloMosaic ValueIdx
open Cert.Pre_rows_clear_of_gaps Cert.Pre_rows_clear_of_gaps.Facts
open Cert.Angle Cert.Wedge Cert.Row

section Layout
variable {α : Type} {N M : ℕ}

/-- A vector spread along the rows of a matrix, at a place, is the vector at the place's row. -/
theorem spread_rows (hN : N ≠ 1) (h1 : (⟨1, ![N]⟩ : Shape).BroadcastsInDim ⟨2, ![N, 1]⟩ (![0] : Fin 1 → Fin 2))
    (h2 : (⟨2, ![N, 1]⟩ : Shape).BroadcastsInDim ⟨2, ![N, M]⟩ (![0, 1] : Fin 2 → Fin 2)) (y : (⟨1, ![N]⟩ : Shape).Idx → α)
    (r : Fin N) (k : Fin M) :
    broadcastInDim ⟨2, ![N, M]⟩ (![0, 1] : Fin 2 → Fin 2) h2 (broadcastInDim ⟨2, ![N, 1]⟩ (![0] : Fin 1 → Fin 2) h1 y) (ix2 r k) = y (ix1 r) := by
  rw [broadcastInDim_apply (![0, 1] : Fin 2 → Fin 2) h2 _ (ix2 r k) (ix2 r (0 : Fin 1)) (fun a => by
    match a with
    | ⟨0, _⟩ => show r.val = if N = 1 then 0 else r.val; rw [if_neg hN]
    | ⟨1, _⟩ => show 0 = if (1 : ℕ) = 1 then 0 else k.val; rw [if_pos rfl])]
  exact broadcastInDim_apply (![0] : Fin 1 → Fin 2) h1 y (ix2 r (0 : Fin 1)) (ix1 r) (fun a => by
    match a with
    | ⟨0, _⟩ => show r.val = if N = 1 then 0 else r.val; rw [if_neg hN])

/-- A vector spread along the columns of a matrix, at a place, is the vector at the place's column. -/
theorem spread_cols (hM : M ≠ 1) (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (y : (⟨1, ![M]⟩ : Shape).Idx → α)
    (r : Fin N) (k : Fin M) :
    broadcastInDim ⟨2, ![N, M]⟩ (![0, 1] : Fin 2 → Fin 2) h2 (broadcastInDim ⟨2, ![1, M]⟩ (![1] : Fin 1 → Fin 2) h1 y) (ix2 r k) = y (ix1 k) := by
  rw [broadcastInDim_apply (![0, 1] : Fin 2 → Fin 2) h2 _ (ix2 r k) (ix2 (0 : Fin 1) k) (fun a => by
    match a with
    | ⟨0, _⟩ => show 0 = if (1 : ℕ) = 1 then 0 else r.val; rw [if_pos rfl]
    | ⟨1, _⟩ => show k.val = if M = 1 then 0 else k.val; rw [if_neg hM])]
  exact broadcastInDim_apply (![1] : Fin 1 → Fin 2) h1 y (ix2 (0 : Fin 1) k) (ix1 k) (fun a => by
    match a with
    | ⟨0, _⟩ => show k.val = if M = 1 then 0 else k.val; rw [if_neg hM])

/-- One column of a matrix, read as a vector. -/
theorem column (x : (⟨2, ![N, M]⟩ : Shape).Idx → α) (j : Fin M)
    (h : (⟨2, ![N, M]⟩ : Shape).Slices (![0, j.val] : Fin 2 → ℕ) ⟨2, ![N, 1]⟩)
    (h' : (⟨2, ![N, 1]⟩ : Shape).ShapeCasts ⟨1, ![N]⟩) (r : Fin N) :
    shapeCast ⟨1, ![N]⟩ (extractStridedSlice ⟨2, ![N, 1]⟩ (![0, j.val] : Fin 2 → ℕ) x h) h' (ix1 r) = x (ix2 r j) := by
  rw [shapeCast_apply _ h' (ix1 r) (ix2 r (0 : Fin 1)) (by
    rw [Shape.rowMajor_val_two, Shape.rowMajor_val_one]; show r.val * 1 + 0 = r.val; omega)]
  exact extractStridedSlice_apply _ x h _ _ fun a => by
    match a with
    | ⟨0, _⟩ => show r.val = 0 + r.val; omega
    | ⟨1, _⟩ => rfl

/-- A few neighbouring columns of a matrix, at a place. -/
theorem columns {W : ℕ} (o : ℕ) (x : (⟨2, ![N, M]⟩ : Shape).Idx → α)
    (h : (⟨2, ![N, M]⟩ : Shape).Slices (![0, o] : Fin 2 → ℕ) ⟨2, ![N, W]⟩) (r : Fin N) (k : Fin W) (hk : o + k.val < M) :
    extractStridedSlice ⟨2, ![N, W]⟩ (![0, o] : Fin 2 → ℕ) x h (ix2 r k) = x (ix2 r ⟨o + k.val, hk⟩) :=
  extractStridedSlice_apply _ x h _ _ fun a => by
    match a with
    | ⟨0, _⟩ => show r.val = 0 + r.val; omega
    | ⟨1, _⟩ => rfl

end Layout

/-- The inner edges of ten equal parts of one turn. -/
def edge (k : Fin 9) : ℝ := turn * ((1 + k.val : ℕ) / 10)

/-- The edges grow. -/
theorem edge_mono {a b : Fin 9} (h : a ≤ b) : edge a ≤ edge b := by
  unfold edge
  have h' : ((1 + a.val : ℕ) : ℝ) ≤ ((1 + b.val : ℕ) : ℝ) := by exact_mod_cast Nat.add_le_add_left h 1
  exact mul_le_mul_of_nonneg_left (by linarith) turn_pos.le

/-- The edges are not negative. -/
theorem edge_nonneg (k : Fin 9) : 0 ≤ edge k := mul_nonneg turn_pos.le (by positivity)

theorem word_ten : Ideal.ofBits .f32 0x41200000#32 = ((10 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num

/-- The eleven points from zero to one turn: an inner one. -/
theorem point_inner (k : Fin 9) :
    fn_linspace (F := Ideal) (constant S_ .f32 0x00000000#32) (constant S_ .f32 0x40C90FDB#32) (ix1 ⟨1 + k.val, by omega⟩)
      = (edge k : EReal) := by
  have hk := k.isLt
  refine (concatenate_pair_apply_left (t := S11) (s₁ := S10) (s₂ := S1) 0 _ _ concatenates_S10_S1_S11_d0
    (ix1 ⟨1 + k.val, by omega⟩) rfl (ix1 ⟨1 + k.val, by omega⟩) (fun b => by
      match b with
      | ⟨0, _⟩ => rfl)).trans ?_
  show Ideal.ofBits .f32 0x00000000#32 * (Ideal.ofBits .f32 0x3F800000#32
      - Ideal.div (((BitVec.ofNat 32 (1 + k.val)).toInt : ℝ) : EReal) (Ideal.ofBits .f32 0x41200000#32))
    + Ideal.ofBits .f32 0x40C90FDB#32 * Ideal.div (((BitVec.ofNat 32 (1 + k.val)).toInt : ℝ) : EReal) (Ideal.ofBits .f32 0x41200000#32) = _
  have hi : (BitVec.ofNat 32 (1 + k.val)).toInt = ((1 + k.val : ℕ) : ℤ) := by
    clear hk; revert k; decide
  rw [hi, word_ten, word_turn, Ideal.ofBits_zero_f32, zero_mul, zero_add]
  unfold Ideal.div edge
  rw [if_neg (by norm_num)]
  norm_cast

/-- The angle of row `r`'s first two entries, modulo one turn. -/
def angle (x : FVec Ideal S4194304x16 .f32) (r : Fin 4194304) : EReal :=
  turned (Ideal.atan2 (x (ix2 r 1)) (x (ix2 r 0)))

/-- The precondition's angles. -/
def angles (x : FVec Ideal S4194304x16 .f32) : FVec Ideal S4194304 .f32 :=
  fn_remainder (F := Ideal) (Host.atan2
    (shapeCast S4194304 (extractStridedSlice S4194304x1 ![0, 1] x slices_S4194304x16_S4194304x1_0_1) shapeCasts_S4194304x1_S4194304)
    (shapeCast S4194304 (extractStridedSlice S4194304x1 ![0, 0] x slices_S4194304x16_S4194304x1_0_0) shapeCasts_S4194304x1_S4194304))
    (constant S_ .f32 0x40C90FDB#32)

theorem remainder_at (y : FVec Ideal S4194304 .f32) (i : S4194304.Idx) :
    fn_remainder (F := Ideal) y (constant S_ .f32 0x40C90FDB#32) i = turned (y i) := rfl

theorem angles_at (x : FVec Ideal S4194304x16 .f32) (r : Fin 4194304) : angles x (ix1 r) = angle x r := by
  unfold angles angle
  rw [remainder_at]
  exact congrArg turned (congrArg₂ Ideal.atan2 (column x 1 slices_S4194304x16_S4194304x1_0_1 shapeCasts_S4194304x1_S4194304 r)
    (column x 0 slices_S4194304x16_S4194304x1_0_0 shapeCasts_S4194304x1_S4194304 r))

/-- The precondition's marks: edge `k` is below the angle. -/
def marks (x : FVec Ideal S4194304x16 .f32) : IVec S4194304x9 1 :=
  cmpf .olt (broadcastInDim S4194304x9 ![0, 1] bcast_S1x9_S4194304x9_0_1 (broadcastInDim S1x9 ![1] bcast_S9_S1x9_1
      (extractStridedSlice S9 ![1] (fn_linspace (F := Ideal) (constant S_ .f32 0x00000000#32) (constant S_ .f32 0x40C90FDB#32)) slices_S11_S9_1)))
    (broadcastInDim S4194304x9 ![0, 1] bcast_S4194304x1_S4194304x9_0_1 (broadcastInDim S4194304x1 ![0] bcast_S4194304_S4194304x1_0 (angles x)))

theorem marks_at (x : FVec Ideal S4194304x16 .f32) (r : Fin 4194304) (k : Fin 9) :
    marks x (ix2 r k) = Ideal.cmp .olt (edge k : EReal) (angle x r) := by
  refine congrArg₂ (Ideal.cmp .olt) ?_ ?_
  · refine (spread_cols (by decide) bcast_S9_S1x9_1 bcast_S1x9_S4194304x9_0_1 _ r k).trans ?_
    refine (extractStridedSlice_apply _ _ slices_S11_S9_1 (ix1 k) (ix1 ⟨1 + k.val, by omega⟩) fun a => ?_).trans (point_inner k)
    match a with
    | ⟨0, _⟩ => rfl
  · exact (spread_rows (by decide) bcast_S4194304_S4194304x1_0 bcast_S4194304x1_S4194304x9_0_1 _ r k).trans (angles_at x r)

/-- A table of four words at a place. -/
theorem table_at (L : Fin 4 → BitVec 32) (k : Fin 4) : L (S4.rowMajor (ix1 k)) = L k :=
  congrArg L (Fin.ext (by rw [Shape.rowMajor_val_one]))

theorem lit0_at (k : Fin 4) : lit0 k = sinWord k := by match k with | 0 => rfl | 1 => rfl | 2 => rfl | 3 => rfl
theorem lit1_at (k : Fin 4) : lit1 k = cosWord k := by match k with | 0 => rfl | 1 => rfl | 2 => rfl | 3 => rfl
theorem lit2_at (k : Fin 4) : lit2 k = sinWord k ^^^ 0x80000000#32 := by match k with | 0 => rfl | 1 => rfl | 2 => rfl | 3 => rfl
theorem lit3_at (k : Fin 4) : lit3 k = cosWord k ^^^ 0x80000000#32 := by match k with | 0 => rfl | 1 => rfl | 2 => rfl | 3 => rfl

/-- The second part of the precondition at a place. -/
theorem low_at (x : FVec Ideal S4194304x16 .f32) (r : Fin 4194304) (k : Fin 4) :
    (fn (F := Ideal) x).2.1 (ix2 r k) = IntOp.cmpi .eq (Ideal.cmp .olt (ang (sinR k) (cosR k) : EReal) (angle x r))
      (Ideal.cmp .olt (edge ⟨0 + k.val, by omega⟩ : EReal) (angle x r)) := by
  have hk := k.isLt
  refine congrArg₂ (IntOp.cmpi .eq) (congrArg₂ (Ideal.cmp .olt) ?_ ?_) ?_
  · refine (spread_cols (by decide) bcast_S4_S1x4_1 bcast_S1x4_S4194304x4_0_1 _ r k).trans ?_
    show Ideal.atan2 (Ideal.ofBits .f32 (lit0 (S4.rowMajor (ix1 k)))) (Ideal.ofBits .f32 (lit1 (S4.rowMajor (ix1 k)))) = _
    refine (congrArg₂ (fun a b => Ideal.atan2 (Ideal.ofBits .f32 a) (Ideal.ofBits .f32 b))
      ((table_at lit0 k).trans (lit0_at k)) ((table_at lit1 k).trans (lit1_at k))).trans ?_
    show Ideal.atan2 (Ideal.ofBits .f32 (sinWord k)) (Ideal.ofBits .f32 (cosWord k)) = _
    rw [word_sin, word_cos, atan_real]
  · exact (spread_rows (by decide) bcast_S4194304_S4194304x1_0 bcast_S4194304x1_S4194304x4_0_1 _ r k).trans (angles_at x r)
  · exact (columns 0 (marks x) slices_S4194304x9_S4194304x4_0_0 r k (by omega)).trans (marks_at x r _)

/-- The third part of the precondition at a place. -/
theorem high_at (x : FVec Ideal S4194304x16 .f32) (r : Fin 4194304) (k : Fin 4) :
    (fn (F := Ideal) x).2.2 (ix2 r k) = IntOp.cmpi .eq
      (Ideal.cmp .olt ((ang (-sinR k) (-cosR k) + turn : ℝ) : EReal) (angle x r))
      (Ideal.cmp .olt (edge ⟨5 + k.val, by omega⟩ : EReal) (angle x r)) := by
  have hk := k.isLt
  refine congrArg₂ (IntOp.cmpi .eq) (congrArg₂ (Ideal.cmp .olt) ?_ ?_) ?_
  · refine (spread_cols (by decide) bcast_S4_S1x4_1 bcast_S1x4_S4194304x4_0_1 _ r k).trans ?_
    show Ideal.atan2 (Ideal.ofBits .f32 (lit2 (S4.rowMajor (ix1 k)))) (Ideal.ofBits .f32 (lit3 (S4.rowMajor (ix1 k))))
      + Ideal.ofBits .f32 0x40C90FDB#32 = _
    refine (congrArg₂ (fun a b => Ideal.atan2 (Ideal.ofBits .f32 a) (Ideal.ofBits .f32 b) + Ideal.ofBits .f32 0x40C90FDB#32)
      ((table_at lit2 k).trans (lit2_at k)) ((table_at lit3 k).trans (lit3_at k))).trans ?_
    show Ideal.atan2 (Ideal.ofBits .f32 (sinWord k ^^^ 0x80000000#32)) (Ideal.ofBits .f32 (cosWord k ^^^ 0x80000000#32))
      + Ideal.ofBits .f32 0x40C90FDB#32 = _
    rw [word_sin_neg, word_cos_neg, atan_real, word_turn, ← EReal.coe_add]
  · exact (spread_rows (by decide) bcast_S4194304_S4194304x1_0 bcast_S4194304x1_S4194304x4_0_1 _ r k).trans (angles_at x r)
  · exact (columns 5 (marks x) slices_S4194304x9_S4194304x4_0_5 r k (by omega)).trans (marks_at x r _)

/-- The first part of the precondition: every entry is a real number. -/
theorem finite (x : FVec Ideal S4194304x16 .f32) (h : (fn (F := Ideal) x).1 = fun _ => 1#1) (i : S4194304x16.Idx) :
    ∃ t : ℝ, x i = (t : EReal) := by
  have h1 : Ideal.cmp .olt (max (x i) (-(x i))) (Ideal.ofBits .f32 0x7F800000#32) = 1#1 := congrFun h i
  have h2 : Ideal.ofBits .f32 0x7F800000#32 = ⊤ := by simp [Ideal.ofBits, Ideal.ieee]
  rw [h2] at h1
  have h3 : max (x i) (-(x i)) < ⊤ := (bit_one _).1 h1
  rw [max_lt_iff] at h3
  clear h1 h2
  generalize x i = z at h3 ⊢
  induction z using EReal.rec with
  | bot => simp at h3
  | coe t => exact ⟨t, rfl⟩
  | top => simp at h3

/-- Equal bits. -/
theorem bits_agree {a b : BitVec 1} (h : IntOp.cmpi .eq a b = 1#1) : a = b := by revert a b; decide

/-- Under the precondition the edges and the kernel's bounds are the same to every row: edge `k` is below the row's
angle exactly when the row meets condition `k`. -/
theorem edge_hit (x : FVec Ideal S4194304x16 .f32) (hf : (fn (F := Ideal) x).1 = fun _ => 1#1)
    (hl : (fn (F := Ideal) x).2.1 = fun _ => 1#1) (hh : (fn (F := Ideal) x).2.2 = fun _ => 1#1)
    (r : Fin 4194304) (k : Fin 9) :
    (edge k : EReal) < angle x r ↔ hit k (x (ix2 r 0)) (x (ix2 r 1)) := by
  obtain ⟨a, ha⟩ := finite x hf (ix2 r 0)
  obtain ⟨b, hb⟩ := finite x hf (ix2 r 1)
  have hA : angle x r = (wrap turn (ang b a) : EReal) := by
    unfold angle; rw [ha, hb, atan_real, turned_real]
  rw [ha, hb, hit_real, ← EReal.coe_lt_coe_iff, ← hA]
  have low (j : Fin 4) : (edge ⟨0 + j.val, by omega⟩ : EReal) < angle x r ↔ (ang (sinR j) (cosR j) : EReal) < angle x r := by
    have e := bits_agree ((low_at x r j).symm.trans (congrFun hl (ix2 r j)))
    exact (bit_one _).symm.trans ((Eq.congr_left e.symm).trans (bit_one _))
  have high (j : Fin 4) : (edge ⟨5 + j.val, by omega⟩ : EReal) < angle x r
      ↔ ((ang (-sinR j) (-cosR j) + turn : ℝ) : EReal) < angle x r := by
    have e := bits_agree ((high_at x r j).symm.trans (congrFun hh (ix2 r j)))
    exact (bit_one _).symm.trans ((Eq.congr_left e.symm).trans (bit_one _))
  match k with
  | 0 => exact low 0
  | 1 => exact low 1
  | 2 => exact low 2
  | 3 => exact low 3
  | 4 =>
    have e : edge 4 = bound 4 := by unfold edge bound; norm_num; ring
    rw [e]
  | 5 => exact high 0
  | 6 => exact high 1
  | 7 => exact high 2
  | 8 => exact high 3

end Cert.Clear
-- ==== Proof.Rescale.lean ====
/-
  The reference's first stage: every row is divided by its length and shortened again by one positive number, so the
  direction of its first two entries does not change; a row of zeros stays one.
-/
module

public import proofs.«01_k».proof.Proof.Clear
public import proofs.«01_k».proof.Proof.Gen.ReferenceIdeal.Read

@[expose] public section

noncomputable section

namespace Cert.Rescale

open Idealize.ShloMosaic ValueIdx
open Cert.ReferenceIdeal Cert.ReferenceIdeal.Gen Cert.ReferenceIdeal.Read
open Cert.Angle Cert.Wedge Cert.Row
open scoped BigOperators

/-- The square root of the sum of a row's squares. -/
def len (a : Fin 16 → EReal) : EReal := Ideal.sqrt (Ideal.ofBits .f32 0x00000000#32 + ∑ q, a q * a q)
/-- A row's entries divided by its length. -/
def unit (a : Fin 16 → EReal) (j : Fin 16) : EReal := Ideal.div (a j) (len a)
/-- Two over one more than the length of the divided row. -/
def shrink (a : Fin 16 → EReal) : EReal :=
  Ideal.div (Ideal.ofBits .f32 0x40000000#32) (Ideal.ofBits .f32 0x3F800000#32 + len (unit a))

theorem word_two : Ideal.ofBits .f32 0x40000000#32 = ((2 : ℝ) : EReal) := by
  simp [Ideal.ofBits, Ideal.ieee, -EReal.coe_mul]; norm_num

/-- A finite sum of real numbers. -/
theorem sum_real {n : ℕ} (f : Fin n → ℝ) : (∑ q, (f q : EReal)) = ((∑ q, f q : ℝ) : EReal) :=
  (map_sum (⟨⟨Real.toEReal, EReal.coe_zero⟩, EReal.coe_add⟩ : ℝ →+ EReal) f Finset.univ).symm

/-- The length of a finite row. -/
theorem len_real (a : Fin 16 → ℝ) : len (fun q => (a q : EReal)) = (Real.sqrt (∑ q, a q * a q) : EReal) := by
  unfold len
  rw [Ideal.ofBits_zero_f32, zero_add]
  have e : (∑ q, (a q : EReal) * (a q : EReal)) = ((∑ q, a q * a q : ℝ) : EReal) := by
    rw [← sum_real]; exact Finset.sum_congr rfl fun q _ => (EReal.coe_mul _ _).symm
  rw [e]
  have h0 : ¬ (∑ q, a q * a q) < 0 := not_lt.2 (Finset.sum_nonneg fun q _ => mul_self_nonneg _)
  show (if (∑ q, a q * a q) < 0 then ⊥ else (Real.sqrt (∑ q, a q * a q) : EReal)) = _
  rw [if_neg h0]

/-- A quotient of real numbers, the divisor not zero. -/
theorem div_real (x : ℝ) {y : ℝ} (h : y ≠ 0) : Ideal.div (x : EReal) (y : EReal) = ((x / y : ℝ) : EReal) := by
  unfold Ideal.div
  rw [if_neg (by exact_mod_cast h), div_eq_mul_inv, EReal.coe_mul, EReal.coe_inv]

/-- The rescaled row is the row times one positive number. -/
theorem rescaled (a : Fin 16 → ℝ) : ∃ k : ℝ, 0 < k ∧ ∀ j,
    unit (fun q => (a q : EReal)) j * shrink (fun q => (a q : EReal)) = ((k * a j : ℝ) : EReal) := by
  by_cases hz : (∑ q, a q * a q) = 0
  · have ha (j : Fin 16) : a j = 0 :=
      mul_self_eq_zero.1 ((Finset.sum_eq_zero_iff_of_nonneg fun q _ => mul_self_nonneg (a q)).1 hz j (Finset.mem_univ j))
    have hu : unit (fun q => (a q : EReal)) = fun _ => ⊥ := by
      funext j
      unfold unit
      rw [len_real, hz, Real.sqrt_zero]
      show Ideal.div (a j : EReal) _ = _
      rw [ha j]
      unfold Ideal.div
      simp
    have hl : len (fun _ => (⊥ : EReal)) = ⊤ := by
      unfold len
      have : (∑ _q : Fin 16, (⊥ : EReal) * ⊥) = ⊤ := by
        rw [EReal.bot_mul_bot, Fin.sum_univ_succ]
        exact EReal.top_add_of_ne_bot (lt_of_lt_of_le EReal.bot_lt_zero (Finset.sum_nonneg fun _ _ => le_top)).ne'
      rw [this, Ideal.ofBits_zero_f32, zero_add]; rfl
    have hs : shrink (fun q => (a q : EReal)) = 0 := by
      unfold shrink
      rw [hu, hl, Clear.word_one, word_two, EReal.coe_add_top]
      unfold Ideal.div
      rw [if_neg EReal.top_ne_zero, EReal.inv_top, mul_zero]
    exact ⟨1, one_pos, fun j => by rw [hs, mul_zero, ha j, mul_zero]; rfl⟩
  · have hn : 0 < Real.sqrt (∑ q, a q * a q) :=
      Real.sqrt_pos.2 (lt_of_le_of_ne (Finset.sum_nonneg fun q _ => mul_self_nonneg _) (Ne.symm hz))
    have hu : unit (fun q => (a q : EReal)) = fun j => ((a j / Real.sqrt (∑ q, a q * a q) : ℝ) : EReal) := by
      funext j
      unfold unit
      rw [len_real, div_real _ hn.ne']
    have hp : 0 < 1 + Real.sqrt (∑ j, a j / Real.sqrt (∑ q, a q * a q) * (a j / Real.sqrt (∑ q, a q * a q))) := by
      have := Real.sqrt_nonneg (∑ j, a j / Real.sqrt (∑ q, a q * a q) * (a j / Real.sqrt (∑ q, a q * a q)))
      linarith
    have hs : shrink (fun q => (a q : EReal))
        = ((2 / (1 + Real.sqrt (∑ j, a j / Real.sqrt (∑ q, a q * a q) * (a j / Real.sqrt (∑ q, a q * a q)))) : ℝ) : EReal) := by
      unfold shrink
      rw [hu, len_real, Clear.word_one, word_two, ← EReal.coe_add, div_real _ hp.ne']
    refine ⟨2 / (1 + Real.sqrt (∑ j, a j / Real.sqrt (∑ q, a q * a q) * (a j / Real.sqrt (∑ q, a q * a q))))
      / Real.sqrt (∑ q, a q * a q), by positivity, fun j => ?_⟩
    rw [hs, hu, ← EReal.coe_mul]
    congr 1
    ring

variable (x : FVec Ideal S4194304x16 .f32)

/-- Row `r`. -/
def row (r : Fin 4194304) : Fin 16 → EReal := fun q => x (ix2 r q)

theorem len_at (r : Fin 4194304) : val_main_v0 (F := Ideal) x (ix2 r 0) = len (row x r) := by
  rw [val_main_v0_apply, val_main_call0_v2_apply, val_main_call0_v1_apply, Ideal.hostUnary_sqrt_def]
  refine congrArg (fun z => Ideal.sqrt (Ideal.ofBits .f32 0x00000000#32 + z)) (Finset.sum_congr rfl fun q _ => ?_)
  have e : idx_main_call0_v1 (idx_main_call0_v2 (ix2 r (0 : Fin 1))) q = ix2 r q := eq_ix2 _
  rw [e]; rfl

theorem unit_at (r : Fin 4194304) (j : Fin 16) : val_main_v2 (F := Ideal) x (ix2 r j) = unit (row x r) j := by
  rw [val_main_v2_apply, val_main_v1_apply]
  have e : idx_main_v1 (ix2 r j) = ix2 r (0 : Fin 1) := eq_ix2 _
  rw [e, len_at]; rfl

theorem shrink_at (r : Fin 4194304) : val_main_v10 (F := Ideal) x (ix2 r 0) = shrink (row x r) := by
  rw [val_main_v10_apply, val_main_v9_apply, val_main_v8_apply, val_main_v7_apply, val_main_v6_apply, val_main_v5_apply,
    val_main_v4_apply, Ideal.hostUnary_sqrt_def]
  refine congrArg (fun z => Ideal.div (Ideal.ofBits .f32 0x40000000#32) (Ideal.ofBits .f32 0x3F800000#32
    + Ideal.sqrt (Ideal.ofBits .f32 0x00000000#32 + z))) (Finset.sum_congr rfl fun q _ => ?_)
  have e : idx_main_v4 (idx_main_v5 (ix2 r (0 : Fin 1))) q = ix2 r q := eq_ix2 _
  rw [e, val_main_v3_apply, unit_at]; rfl

theorem scaled_at (r : Fin 4194304) (j : Fin 16) :
    val_main_v12 (F := Ideal) x (ix2 r j) = unit (row x r) j * shrink (row x r) := by
  rw [val_main_v12_apply, val_main_v11_apply, unit_at]
  have e : idx_main_v11 (ix2 r j) = ix2 r (0 : Fin 1) := eq_ix2 _
  rw [e, shrink_at]; rfl

theorem y_at (r : Fin 4194304) : val_main_v15 (F := Ideal) x (ix1 r) = unit (row x r) 1 * shrink (row x r) := by
  rw [val_main_v15_apply, val_main_v14_apply, val_main_v13_apply, ← scaled_at]
  refine congrArg _ (funext fun a => Fin.ext ?_)
  match a with
  | ⟨0, _⟩ => exact Nat.div_one _
  | ⟨1, _⟩ => rfl

theorem x_at (r : Fin 4194304) : val_main_v17 (F := Ideal) x (ix1 r) = unit (row x r) 0 * shrink (row x r) := by
  rw [val_main_v17_apply, val_main_v16_apply, val_main_v13_apply, ← scaled_at]
  refine congrArg _ (funext fun a => Fin.ext ?_)
  match a with
  | ⟨0, _⟩ => exact Nat.div_one _
  | ⟨1, _⟩ => rfl

/-- Of finite rows, the reference's angle is the angle of the row's first two entries. -/
theorem angle_at (hf : ∀ i, ∃ t : ℝ, x i = (t : EReal)) (r : Fin 4194304) :
    val_main_v19 (F := Ideal) x (ix1 r) = Clear.angle x r := by
  choose f hx using hf
  obtain ⟨k, hk, hp⟩ := rescaled fun q => f (ix2 r q)
  have hr : row x r = fun q => ((f (ix2 r q) : ℝ) : EReal) := funext fun q => hx _
  have e : val_main_v19 (F := Ideal) x (ix1 r) = turned (Ideal.atan2 (val_main_v15 (F := Ideal) x (ix1 r)) (val_main_v17 (F := Ideal) x (ix1 r))) := by
    rw [val_main_v19_apply, val_main_call1_v10_apply, val_main_call1_v9_apply, val_main_call1_v6_apply, val_main_call1_v8_apply,
      val_main_call1_v4_apply, val_main_call1_v12_apply, val_main_call1_v2_apply, val_main_call1_v11_apply, val_main_call1_v5_apply,
      val_main_call1_v3_apply, val_main_call1_v1_apply, val_main_v18_apply]
    rfl
  rw [e, y_at, x_at, hr, hp, hp, atan_real, ang_scale hk]
  unfold Clear.angle
  rw [hx, hx, atan_real]

/-- The reference's mark at a place: edge `k` is below the row's angle. -/
theorem mark_at (hf : ∀ i, ∃ t : ℝ, x i = (t : EReal)) (r : Fin 4194304) (k : Fin 9) :
    val_main_v26 (F := Ideal) x (ix2 r k) = 1#1 ↔ (Clear.edge k : EReal) < Clear.angle x r := by
  have hk := k.isLt
  have e1 : val_main_v24 (F := Ideal) (ix2 r k) = (Clear.edge k : EReal) := by
    rw [val_main_v24_apply, val_main_v22_apply, val_main_v21_apply]
    have e : idx_main_v21 (idx_main_v22 (idx_main_v24 (ix2 r k))) = ix1 ⟨1 + k.val, by omega⟩ := eq_ix1 _
    rw [e]
    exact Clear.point_inner k
  have e2 : val_main_v25 (F := Ideal) x (ix2 r k) = Clear.angle x r := by
    rw [val_main_v25_apply, val_main_v23_apply]
    have e : idx_main_v23 (idx_main_v25 (ix2 r k)) = ix1 r := eq_ix1 _
    rw [e, angle_at x hf r]
  rw [val_main_v26_apply, e1, e2]
  exact bit_one _

end Cert.Rescale
-- ==== Proof.Count.lean ====
/-
  Scattering ones into bins counts, for each bin, the places whose index is that bin.
-/
module

public import Idealize.ShloMosaic.Lib.Routing.Ops
public import Idealize.ShloMosaic.Lib.Routing.OpsPair
public import Mathlib.Order.Interval.Finset.Fin
public import Idealize.ShloMosaic.Lib.ValueIdx

@[expose] public section

noncomputable section

namespace Cert.Bins

open Idealize.ShloMosaic Idealize.ShloMosaic.Routing
open ValueIdx
open scoped BigOperators

section Lands
variable {K N : ℕ} (d : ScatterDims (shape1 K) (shape2 N 1) (shape1 N))

/-- The start of update `i` is its one index word, read signed. -/
theorem start_word (hsd : d.scatterDimsToOperandDims = [0]) (hv : d.indexVectorDim = 1)
    (idx : IVec (shape2 N 1) 32) (i : Fin N) : d.start (ix1 i) idx 0 = (idx (ix2 i (0 : Fin 1))).toInt := by
  have hm : (0 : Fin 1) ∈ d.scatterDimsToOperandDims := by rw [hsd]; simp
  unfold ScatterDims.start
  rw [dif_pos hm]
  refine congrArg (fun q => (idx q).toInt) (funext fun b => Fin.ext ?_)
  match b with
  | ⟨0, _⟩ =>
    have e : ∀ z : Fin 1, (ix1 i z).val = i.val := fun z => by rw [Subsingleton.elim z 0]
    unfold ScatterDims.siIdx
    rw [dif_neg (by rw [hv]; exact Nat.zero_ne_one)]
    unfold ScatterDims.siCoord
    simp only [Fin.val_cast]
    exact e _
  | ⟨1, _⟩ =>
    unfold ScatterDims.siIdx
    rw [dif_pos (by rw [hv])]
    show List.idxOf (0 : Fin 1) d.scatterDimsToOperandDims = 0
    rw [hsd]; simp

/-- The one operand axis is inserted, so no update has a window coordinate. -/
theorem window_none (hw : d.insertedWindowDims = [0]) (i : Fin N) : d.window (ix1 i) 0 = 0 := by
  unfold ScatterDims.window
  rw [dif_neg fun h => (of_decide_eq_true (List.mem_filter.1 h).2) (by rw [hw]; simp)]

/-- Update `i` lands in bin `x` exactly when its index word, read signed, is `x`. -/
theorem lands (hw : d.insertedWindowDims = [0]) (hsd : d.scatterDimsToOperandDims = [0]) (hv : d.indexVectorDim = 1)
    (idx : IVec (shape2 N 1) 32) (i : Fin N) (x : Fin K) :
    d.resultIdx? (ix1 i) idx = some (ix1 x) ↔ (idx (ix2 i (0 : Fin 1))).toInt = (x.val : Int) := by
  have hs := start_word d hsd hv idx i
  have hn := window_none d hw i
  have hx := x.isLt
  unfold ScatterDims.resultIdx?
  by_cases h : ∀ a, 0 ≤ d.start (ix1 i) idx a + (d.window (ix1 i) a : Int)
      ∧ d.start (ix1 i) idx a + (d.window (ix1 i) a : Int) < ((shape1 K).size a : Int)
  · rw [dif_pos h]
    have h0 := h 0
    rw [hs, hn] at h0
    refine ⟨fun e => ?_, fun e => congrArg some (funext fun a => Fin.ext ?_)⟩
    · have e0 := congrArg Fin.val (congrFun (Option.some.inj e) 0)
      change (d.start (ix1 i) idx 0 + (d.window (ix1 i) 0 : Int)).toNat = x.val at e0
      rw [hs, hn] at e0
      omega
    · match a with
      | ⟨0, _⟩ =>
        show (d.start (ix1 i) idx 0 + (d.window (ix1 i) 0 : Int)).toNat = x.val
        rw [hs, hn]; omega
  · rw [dif_neg h]
    refine ⟨fun e => (by cases e), fun e => (h fun a => ?_).elim⟩
    match a with
    | ⟨0, _⟩ =>
      show 0 ≤ d.start (ix1 i) idx 0 + (d.window (ix1 i) 0 : Int)
        ∧ d.start (ix1 i) idx 0 + (d.window (ix1 i) 0 : Int) < (K : Int)
      rw [hs, hn]; omega

end Lands

/-- Adding one for each member of a list that meets a condition adds the number of those members. -/
theorem foldl_ones {ι : Type} (l : List ι) (P : ι → Prop) [DecidablePred P] (z : ℕ) :
    l.foldl (fun a n => if P n then IntOp.addi a 1#32 else a) (BitVec.ofNat 32 z)
      = BitVec.ofNat 32 (z + l.countP fun n => decide (P n)) := by
  induction l generalizing z with
  | nil => rfl
  | cons b l ih =>
    rw [List.foldl_cons, List.countP_cons]
    by_cases hb : P b
    · rw [if_pos hb, show IntOp.addi (BitVec.ofNat 32 z) 1#32 = BitVec.ofNat 32 (z + 1) from
        (BitVec.ofNat_add z 1).symm, ih]
      simp only [hb, decide_true, if_true]; congr 1; omega
    · rw [if_neg hb, ih]; simp only [hb, decide_false]; rfl

/-- The members of the list of all places that meet a condition are as many as the set of those places. -/
theorem countP_places (N : ℕ) (P : Fin N → Prop) [DecidablePred P] :
    ((List.finRange N).countP fun n => decide (P n)) = (Finset.univ.filter P).card := by
  rw [List.countP_eq_length_filter, ← List.toFinset_card_of_nodup ((List.nodup_finRange N).filter _)]
  congr 1
  ext n
  simp

/-- Ones scattered into zeros: bin `x` holds the number of places whose index word, read signed, is `x`. -/
theorem scatter_ones {K N : ℕ} (d : ScatterDims (shape1 K) (shape2 N 1) (shape1 N)) (hw : d.insertedWindowDims = [0])
    (hsd : d.scatterDimsToOperandDims = [0]) (hv : d.indexVectorDim = 1) (x0 : IVec (shape1 K) 32)
    (hx0 : ∀ i, x0 i = 0#32) (idx : IVec (shape2 N 1) 32) (upd : IVec (shape1 N) 32) (hu : ∀ i, upd i = 1#32) (x : Fin K) :
    Host.scatter d IntOp.addi x0 idx upd (ix1 x)
      = BitVec.ofNat 32 (Finset.univ.filter fun i : Fin N => (idx (ix2 i (0 : Fin 1))).toInt = (x.val : Int)).card := by
  rw [scatter_at, hx0]
  have e : (fun (a : BitVec 32) (n : Fin (shape1 N).numel) => if d.resultIdx? ((shape1 N).rowMajor.symm n) idx = some (ix1 x)
      then IntOp.addi a (upd ((shape1 N).rowMajor.symm n)) else a)
      = fun a n => if (idx (ix2 (n.cast (numel1 N)) (0 : Fin 1))).toInt = (x.val : Int) then IntOp.addi a 1#32 else a := by
    funext a n
    rw [symm1, hu]
    exact if_congr (lands d hw hsd hv idx _ x) rfl rfl
  rw [e]
  refine (foldl_ones _ (fun n : Fin (shape1 N).numel => (idx (ix2 (n.cast (numel1 N)) (0 : Fin 1))).toInt = (x.val : Int)) 0).trans ?_
  rw [Nat.zero_add, countP_places]
  refine congrArg _ (Finset.card_equiv (finCongr (numel1 N)) fun n => ?_)
  simp

/-- For a set of places growing with the condition's end, the number of conditions among `k` that a place meets,
when those met are the first few. -/
theorem card_initial {n : ℕ} (P : Fin n → Prop) [DecidablePred P] (hP : ∀ a b, a ≤ b → P b → P a) (j : Fin n) :
    j.val < (Finset.univ.filter P).card ↔ P j := by
  constructor
  · intro h
    by_contra hj
    have hsub : Finset.univ.filter P ⊆ Finset.univ.filter fun a : Fin n => a < j := fun a ha => by
      rw [Finset.mem_filter] at ha ⊢
      exact ⟨ha.1, lt_of_not_ge fun hle => hj (hP j a hle ha.2)⟩
    have := Finset.card_le_card hsub
    rw [show (Finset.univ.filter fun a : Fin n => a < j) = Finset.Iio j by ext; simp, Fin.card_Iio] at this
    omega
  · intro h
    have hsub : (Finset.univ.filter fun a : Fin n => a ≤ j) ⊆ Finset.univ.filter P := fun a ha => by
      rw [Finset.mem_filter] at ha ⊢
      exact ⟨ha.1, hP a j ha.2 h⟩
    have := Finset.card_le_card hsub
    rw [show (Finset.univ.filter fun a : Fin n => a ≤ j) = Finset.Iic j by ext; simp, Fin.card_Iic] at this
    omega

end Cert.Bins
-- ==== Proof.Histogram.lean ====
/-
  The reference's second stage: each row's bin is the number of edges below its angle, the bins are counted, and the
  counts are the differences of the nine tallies.
-/
module

public import proofs.«01_k».proof.Proof.Rescale
public import proofs.«01_k».proof.Proof.Count
public import Idealize.ShloMosaic.Lib.StableHlo.Predicate
public import Idealize.ShloMosaic.Lib.ValueIdxRank1

@[expose] public section

noncomputable section

namespace Cert.Histogram

open Idealize.ShloMosaic ValueIdx
open Cert.ReferenceIdeal Cert.ReferenceIdeal.Gen Cert.ReferenceIdeal.Read
open Cert.Wedge
open scoped BigOperators

section Levels
variable {N : ℕ} (n : Fin N → ℕ)

/-- The number of places whose level is `j`. -/
def exact (j : ℕ) : ℕ := (Finset.univ.filter fun r => n r = j).card
/-- The number of places whose level is beyond `j`. -/
def beyond (j : ℕ) : ℕ := (Finset.univ.filter fun r => j < n r).card

/-- The places at level zero and those beyond it are all. -/
theorem exact_zero : exact n 0 + beyond n 0 = N := by
  unfold exact beyond
  rw [← Finset.card_union_of_disjoint (Finset.disjoint_filter.2 fun r _ h => by omega), ← Finset.filter_or,
    Finset.filter_true_of_mem fun r _ => by omega]
  simp

/-- The places at the next level and those beyond it are those beyond this one. -/
theorem exact_succ (j : ℕ) : exact n (j + 1) + beyond n (j + 1) = beyond n j := by
  unfold exact beyond
  rw [← Finset.card_union_of_disjoint (Finset.disjoint_filter.2 fun r _ h => by omega), ← Finset.filter_or]
  exact congrArg Finset.card (Finset.filter_congr fun r _ => by omega)

/-- No place is beyond the highest level. -/
theorem beyond_last {m : ℕ} (h : ∀ r, n r ≤ m) : beyond n m = 0 := by
  unfold beyond
  rw [Finset.card_eq_zero, Finset.filter_eq_empty_iff]
  exact fun r _ => not_lt.2 (h r)

theorem exact_le (j : ℕ) : exact n j ≤ N := (Finset.card_filter_le _ _).trans (by simp)

end Levels

variable (x : FVec Ideal S4194304x16 .f32)

open Classical in
/-- A row's bin: the number of edges below its angle. -/
def bin (r : Fin 4194304) : ℕ := (Finset.univ.filter fun k : Fin 9 => (Clear.edge k : EReal) < Clear.angle x r).card

theorem bin_le (r : Fin 4194304) : bin x r ≤ 9 := (Finset.card_filter_le _ _).trans (by simp)

/-- The edges below an angle are the first few, so edge `k` is below it exactly when the bin is beyond `k`. -/
theorem lt_bin (r : Fin 4194304) (k : Fin 9) : k.val < bin x r ↔ (Clear.edge k : EReal) < Clear.angle x r := by
  classical
  unfold bin
  exact Bins.card_initial (fun k : Fin 9 => (Clear.edge k : EReal) < Clear.angle x r)
    (fun a b hab hb => lt_of_le_of_lt (EReal.coe_le_coe_iff.2 (Clear.edge_mono hab)) hb) k

/-- The reference's count of marks in a row is the row's bin. -/
theorem marks_counted (hf : ∀ i, ∃ t : ℝ, x i = (t : EReal)) (r : Fin 4194304) :
    (val_main_v28 (F := Ideal) x (ix1 r)).toNat = bin x r := by
  classical
  refine (StableHlo.Predicate.toNat_reduce_count_cols (n := 4194304) (m := 9) (by decide) (val_main_v26 (F := Ideal) x) natLt_1_32
    reducesTo_S4194304x9_S4194304_d1 h_S_ (ix1 r)).trans ?_
  refine congrArg Finset.card (Finset.filter_congr fun k _ => ?_)
  have e : StableHlo.Predicate.ij r k = ix2 r k := eq_ix2 _
  exact (iff_of_eq (congrArg (fun i => val_main_v26 (F := Ideal) x i = 1#1) e)).trans (Rescale.mark_at x hf r k)

/-- A count from zero to nine is not changed by the clip at zero or by the turn of negative indices. -/
theorem index_word (w : BitVec 32) (h : w.toNat ≤ 9) :
    (Scalar.select (IntOp.cmpi .slt (IntOp.maxsi 0#32 w) 0#32) (IntOp.addi (IntOp.maxsi 0#32 w) 10#32) (IntOp.maxsi 0#32 w)).toInt
      = (w.toNat : ℤ) := by
  have key : ∀ q : Fin 10, (Scalar.select (IntOp.cmpi .slt (IntOp.maxsi 0#32 (BitVec.ofNat 32 q.val)) 0#32)
      (IntOp.addi (IntOp.maxsi 0#32 (BitVec.ofNat 32 q.val)) 10#32) (IntOp.maxsi 0#32 (BitVec.ofNat 32 q.val))).toInt
      = (q.val : ℤ) := by decide
  have := key ⟨w.toNat, by omega⟩
  simpa only [BitVec.ofNat_toNat, BitVec.setWidth_eq] using this

/-- The scattered counts: bin `j` holds the number of rows of that bin. -/
theorem bins_at (hf : ∀ i, ∃ t : ℝ, x i = (t : EReal)) (j : Fin 10) :
    val_main_v38 (F := Ideal) x (ix1 j) = BitVec.ofNat 32 (exact (bin x) j.val) := by
  refine (Bins.scatter_ones (K := 10) (N := 4194304) scatter_S10_S4194304x1_S4194304_n_0_0_1 rfl rfl rfl (val_main_v29 (F := Ideal))
    (fun i => ?_) (val_main_v36 (F := Ideal) x) (val_main_v37 (F := Ideal)) (fun i => ?_) j).trans ?_
  · rw [val_main_v29_apply, val_main_c_5_apply]
  · rw [val_main_v37_apply, val_main_c_9_apply]
  unfold exact
  refine congrArg (BitVec.ofNat 32) (congrArg Finset.card (Finset.filter_congr fun r _ => ?_))
  have e : idx_main_v36 (ix2 r (0 : Fin 1)) = ix1 r := eq_ix1 _
  have hw : (val_main_v36 (F := Ideal) x (ix2 r (0 : Fin 1))).toInt = (bin x r : ℤ) := by
    rw [val_main_v36_apply, e, val_main_v35_apply, val_main_v32_apply, val_main_v34_apply, val_main_v30_apply,
      val_main_v31_apply, val_main_v33_apply, val_main_call3_v1_apply, val_main_c_7_apply, val_main_c_8_apply,
      val_main_call3_v0_apply, val_main_c_6_apply, ← marks_counted x hf r]
    exact index_word _ (by rw [marks_counted x hf r]; exact bin_le x r)
  rw [hw]
  exact Nat.cast_inj

/-- The counts as numbers. -/
theorem count_at (hf : ∀ i, ∃ t : ℝ, x i = (t : EReal)) (j : Fin 10) :
    val_main_v39 (F := Ideal) x (ix1 j) = ((exact (bin x) j.val : ℝ) : EReal) := by
  rw [val_main_v39_apply, bins_at x hf]
  have hb := exact_le (bin x) j.val
  show (((BitVec.ofNat 32 (exact (bin x) j.val)).toInt : ℝ) : EReal) = _
  rw [StableHlo.Predicate.toInt_ofNat_small _ (by omega)]
  exact congrArg Real.toEReal (Int.cast_natCast _)

/-- The reference's result: the sum over the bins of the squared distances to the expected count, each over it. -/
theorem result_at (hf : ∀ i, ∃ t : ℝ, x i = (t : EReal)) (i : S_.Idx) :
    val_main_v45 (F := Ideal) x i = ∑ j : Fin 10, Ideal.div
      ((((exact (bin x) j.val : ℝ) : EReal) - Ideal.ofBits .f32 0x48CCCCC0#32) * (((exact (bin x) j.val : ℝ) : EReal) - Ideal.ofBits .f32 0x48CCCCC0#32))
      (Ideal.ofBits .f32 0x48CCCCC0#32) := by
  rw [val_main_v45_apply, val_main_cst_12_apply, Ideal.ofBits_def, Ideal.ofBits_zero_f32, zero_add]
  refine (Fintype.sum_equiv idxEquiv1 _ (fun j : Fin 10 => val_main_v44 (F := Ideal) x (ix1 j)) fun q => ?_).trans
    (Finset.sum_congr rfl fun j _ => ?_)
  · exact congrArg _ (eq_ix1 q)
  · rw [val_main_v44_apply, val_main_v43_apply, val_main_v42_apply, val_main_v41_apply, val_main_v40_apply, count_at x hf]
    rfl

end Cert.Histogram
-- ==== Proof.Equal.lean ====
/-
  The equation: under the precondition the kernel's statistic of its nine tallies is the reference's sum over the bins.
-/
module

public import proofs.«01_k».proof.Defs
public import proofs.«01_k».proof.Proof.Whole
public import proofs.«01_k».proof.Proof.Histogram
public import proofs.«01_k».proof.Proof.Gen.ReferenceIdeal.Run

@[expose] public section

noncomputable section

namespace Cert.Equal

open Idealize.ShloMosaic Idealize.ShloMosaic.TcCoe Idealize.SL.Sem ValueIdx
open Cert.Wedge
open scoped BigOperators

/-- A sum of ten terms, from the left. -/
theorem sum_ten (f : Fin 10 → EReal) :
    ∑ j, f j = f 0 + f 1 + f 2 + f 3 + f 4 + f 5 + f 6 + f 7 + f 8 + f 9 := by
  rw [Fin.sum_univ_castSucc, Fin.sum_univ_castSucc, Fin.sum_univ_eight]; rfl

theorem word_all : Ideal.ofBits .f32 0x4A800000#32 = ((4194304 : ℝ) : EReal) := by
  simp [Ideal.ofBits, Ideal.ieee, -EReal.coe_mul]; norm_num

/-- A difference of two counts. -/
theorem diff {p q s : ℕ} (h : s + q = p) : ((s : ℝ) : EReal) = (p : EReal) - (q : EReal) := by
  have e : ((s : ℝ)) = (p : ℝ) - (q : ℝ) := by rw [← h]; push_cast; ring
  rw [e, EReal.coe_sub]; rfl

/-- The kernel's statistic of nine tallies is the sum over the ten bins, when the bins are the tallies' differences. -/
theorem stat_bins (t : Fin 9 → ℕ) (b : ℕ → ℕ) (h0 : b 0 + t 0 = 4194304)
    (h1 : b 1 + t 1 = t 0) (h2 : b 2 + t 2 = t 1) (h3 : b 3 + t 3 = t 2) (h4 : b 4 + t 4 = t 3)
    (h5 : b 5 + t 5 = t 4) (h6 : b 6 + t 6 = t 5) (h7 : b 7 + t 7 = t 6) (h8 : b 8 + t 8 = t 7) (h9 : b 9 = t 8) :
    stat (F := Ideal) (fun k => ((t k : ℕ) : EReal)) = ∑ j : Fin 10, Ideal.div
      ((((b j.val : ℝ) : EReal) - Ideal.ofBits .f32 0x48CCCCC0#32) * (((b j.val : ℝ) : EReal) - Ideal.ofBits .f32 0x48CCCCC0#32))
      (Ideal.ofBits .f32 0x48CCCCC0#32) := by
  rw [sum_ten]
  have e0 : (((b (0 : Fin 10).val : ℕ) : ℝ) : EReal) = Ideal.ofBits .f32 0x4A800000#32 - ((t 0 : ℕ) : EReal) := by
    rw [word_all]
    exact (diff h0).trans (congrArg (· - ((t 0 : ℕ) : EReal)) (by
      rw [← EReal.coe_natCast]; exact congrArg Real.toEReal (by norm_num)))
  have e1 : (((b (1 : Fin 10).val : ℕ) : ℝ) : EReal) = ((t 0 : ℕ) : EReal) - ((t 1 : ℕ) : EReal) := diff h1
  have e2 : (((b (2 : Fin 10).val : ℕ) : ℝ) : EReal) = ((t 1 : ℕ) : EReal) - ((t 2 : ℕ) : EReal) := diff h2
  have e3 : (((b (3 : Fin 10).val : ℕ) : ℝ) : EReal) = ((t 2 : ℕ) : EReal) - ((t 3 : ℕ) : EReal) := diff h3
  have e4 : (((b (4 : Fin 10).val : ℕ) : ℝ) : EReal) = ((t 3 : ℕ) : EReal) - ((t 4 : ℕ) : EReal) := diff h4
  have e5 : (((b (5 : Fin 10).val : ℕ) : ℝ) : EReal) = ((t 4 : ℕ) : EReal) - ((t 5 : ℕ) : EReal) := diff h5
  have e6 : (((b (6 : Fin 10).val : ℕ) : ℝ) : EReal) = ((t 5 : ℕ) : EReal) - ((t 6 : ℕ) : EReal) := diff h6
  have e7 : (((b (7 : Fin 10).val : ℕ) : ℝ) : EReal) = ((t 6 : ℕ) : EReal) - ((t 7 : ℕ) : EReal) := diff h7
  have e8 : (((b (8 : Fin 10).val : ℕ) : ℝ) : EReal) = ((t 7 : ℕ) : EReal) - ((t 8 : ℕ) : EReal) := diff h8
  have e9 : (((b (9 : Fin 10).val : ℕ) : ℝ) : EReal) = ((t 8 : ℕ) : EReal) := congrArg (fun n : ℕ => ((n : ℝ) : EReal)) h9
  rw [e0, e1, e2, e3, e4, e5, e6, e7, e8, e9]
  rfl

section Rows
variable (m : (ℓ : Loc Cert.KernelIdeal.nD Cert.KernelIdeal.τ Cert.KernelIdeal.sig) → Buf (Elt Ideal) ℓ)

/-- Under the precondition tally `k` is the number of rows whose bin is beyond `k`. -/
theorem tally_beyond (h : Cert.Pre_KernelIdeal_rows_clear_of_gaps m) (c : Dev Cert.KernelIdeal.nD) (k : Fin 9) :
    tally m c k = Histogram.beyond (Histogram.bin (rows m c)) k.val := by
  classical
  unfold tally Histogram.beyond
  refine congrArg Finset.card (Finset.filter_congr fun r _ => ?_)
  exact (Clear.edge_hit (rows m c) (h c).1 (h c).2.1 (h c).2.2 r k).symm.trans (Histogram.lt_bin (rows m c) r k).symm

/-- The kernel's result and the reference's, of one array. -/
theorem result_eq (h : Cert.Pre_KernelIdeal_rows_clear_of_gaps m) (c : Dev Cert.KernelIdeal.nD) (i : Cert.ReferenceIdeal.S_.Idx) :
    Cert.ReferenceIdeal.Read.val_main_v45 (F := Ideal) (rows m c) i = stat (counters m c 3 three_lt) := by
  have hc : counters m c 3 three_lt = fun k => ((tally m c k : ℕ) : EReal) := funext fun k => counters_eq_tally m c k
  rw [hc, Histogram.result_at (rows m c) (Clear.finite (rows m c) (h c).1)]
  have hb := fun k => tally_beyond m h c k
  have hl : Histogram.beyond (Histogram.bin (rows m c)) 9 = 0 := Histogram.beyond_last _ (Histogram.bin_le (rows m c))
  have hs := Histogram.exact_succ (Histogram.bin (rows m c))
  refine (stat_bins (tally m c) (Histogram.exact (Histogram.bin (rows m c))) ?_ ?_ ?_ ?_ ?_ ?_ ?_ ?_ ?_ ?_).symm
  · rw [hb]; exact Histogram.exact_zero _
  · rw [hb, hb]; exact hs 0
  · rw [hb, hb]; exact hs 1
  · rw [hb, hb]; exact hs 2
  · rw [hb, hb]; exact hs 3
  · rw [hb, hb]; exact hs 4
  · rw [hb, hb]; exact hs 5
  · rw [hb, hb]; exact hs 6
  · rw [hb, hb]; exact hs 7
  · rw [hb]
    have := hs 8
    rw [hl, Nat.add_zero] at this
    exact this

end Rows

/-- Under the precondition the kernel and the reference end with one result. -/
theorem algebraic : Cert.algebraic_KernelIdeal_ReferenceIdeal_pre_rows_clear_of_gaps := by
  intro m ρ m' ρ' hpre hagree
  refine ⟨_, run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, hagree c]
  exact funext fun i => result_eq m hpre c i

end Cert.Equal
-- ==== Proof.lean ====
module

public import proofs.«01_k».proof.Defs
public import proofs.«01_k».proof.Proof.Frames
public import proofs.«01_k».proof.Proof.Equal
public import proofs.«01_k».proof.Proof.Gen.ReferenceIdeal.Read
public import proofs.«01_k».proof.Proof.Gen.Pre_rows_clear_of_gaps
public import Idealize.ShloMosaic.Adequacy
public import Idealize.ShloMosaic.Init

@[expose] public section

noncomputable section

namespace Cert.Proof

/-- The certificate's claims. -/
theorem claim : Cert.Claim :=
  ⟨Cert.Kernel.Gen.facts, Cert.KernelIdeal.Gen.facts, Cert.ReferenceIdeal.Gen.facts, Cert.Pre_rows_clear_of_gaps.Gen.facts,
    Cert.Frames.kernel, Cert.Frames.kernelIdeal, Cert.Frames.kernelIdeal_pre, Cert.Frames.referenceIdeal,
    Cert.Frames.referenceIdeal_pre, trivial, Cert.Equal.algebraic⟩

end Cert.Proof

end
